-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S2048x2048 : Shape := ⟨2, ![2048, 2048]⟩
abbrev S4x2x128x512 : Shape := ⟨4, ![4, 2, 128, 512]⟩
abbrev S4x2 : Shape := ⟨2, ![4, 2]⟩
abbrev S4 : Shape := ⟨1, ![4]⟩
abbrev S_ : Shape := ⟨0, ![]⟩
abbrev S128x128 : Shape := ⟨2, ![128, 128]⟩
abbrev S128x512 : Shape := ⟨2, ![128, 512]⟩
abbrev S1x1x128x512 : Shape := ⟨4, ![1, 1, 128, 512]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S2048x2048, .f32⟩
  | .local _ .vmem, ⟨0, _⟩ => ⟨S2048x128, .f32⟩
  | .local _ .vmem, ⟨1, _⟩ => ⟨S128x2048, .f32⟩
  | .local _ .vmem, ⟨2, _⟩ => ⟨S2048x2048, .f32⟩
  | .local _ .vmem, ⟨3, _⟩ => ⟨S4x2x128x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_82 : BitVec 32 := 1#32
  let v96 : BitVec 32 := Scalar.muli v62 c1_i32_82
  let v97 : BitVec 32 := Scalar.addi c0_i32_83 v96
  v97.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c128_i32 : BitVec 32 := 128#32
  let v98 : BitVec 32 := Scalar.muli v32 c128_i32
  let v99 : Index := Scalar.indexCast v98
  let c0 : Index := 0#32
  ![v99.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c128_i32_87 : BitVec 32 := 128#32
  let v105 : BitVec 32 := Scalar.muli v32 c128_i32_87
  let v106 : Index := Scalar.indexCast v105
  let c0_88 : Index := 0#32
  ![v106.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c128_i32_89 : BitVec 32 := 128#32
  let v108 : BitVec 32 := Scalar.muli v32 c128_i32_89
  let v109 : Index := Scalar.indexCast v108
  let c0_90 : Index := 0#32
  ![v109.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c128_i32_95 : BitVec 32 := 128#32
  let v115 : BitVec 32 := Scalar.muli v32 c128_i32_95
  let v116 : Index := Scalar.indexCast v115
  let c1024 : Index := 1024#32
  ![v116.toNat, 1024]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c128_i32_99 : BitVec 32 := 128#32
  let v122 : BitVec 32 := Scalar.muli v32 c128_i32_99
  let v123 : Index := Scalar.indexCast v122
  let c512 : Index := 512#32
  ![v123.toNat, 512]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c128_i32_103 : BitVec 32 := 128#32
  let v129 : BitVec 32 := Scalar.muli v32 c128_i32_103
  let v130 : Index := Scalar.indexCast v129
  let c1536 : Index := 1536#32
  ![v130.toNat, 1536]
def k0_dev3 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_115 : BitVec 32 := 1#32
  let v136 : BitVec 32 := Scalar.muli v62 c1_i32_115
  let v137 : BitVec 32 := Scalar.addi c0_i32_116 v136
  v137.toNat
def k0_dev4 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_129 : BitVec 32 := 1#32
  let v146 : BitVec 32 := Scalar.muli v92 c1_i32_129
  let v147 : BitVec 32 := Scalar.addi c0_i32_130 v146
  v147.toNat
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_143 : BitVec 32 := 1#32
  let v156 : BitVec 32 := Scalar.muli v62 c1_i32_143
  let v157 : BitVec 32 := Scalar.addi c0_i32_144 v156
  v157.toNat
def k0_dev6 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_157 : BitVec 32 := 1#32
  let v166 : BitVec 32 := Scalar.muli v92 c1_i32_157
  let v167 : BitVec 32 := Scalar.addi c0_i32_158 v166
  v167.toNat
def k0_off7 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v176 : BitVec 32 := Scalar.addi v32 c1_i32_163
  let c16_i32_164 : BitVec 32 := 16#32
  let v177 : BitVec 32 := Scalar.remsi v176 c16_i32_164
  let c128_i32_165 : BitVec 32 := 128#32
  let v178 : BitVec 32 := Scalar.muli v177 c128_i32_165
  let v179 : Index := Scalar.indexCast v178
  let c0_166 : Index := 0#32
  ![v179.toNat, 0]
def k0_off8 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v176 : BitVec 32 := Scalar.addi v32 c1_i32_163
  let c16_i32_164 : BitVec 32 := 16#32
  let v177 : BitVec 32 := Scalar.remsi v176 c16_i32_164
  let c128_i32_170 : BitVec 32 := 128#32
  let v185 : BitVec 32 := Scalar.muli v177 c128_i32_170
  let v186 : Index := Scalar.indexCast v185
  let c0_171 : Index := 0#32
  ![v186.toNat, 0]
def k0_off9 (d0 : Dev nD) (c1_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_172 : BitVec 32 := 16#32
  let v188 : BitVec 32 := Scalar.addi v32 c16_i32_172
  let v189 : BitVec 32 := Scalar.subi v188 c1_i32_173
  let c16_i32_174 : BitVec 32 := 16#32
  let v190 : BitVec 32 := Scalar.remsi v189 c16_i32_174
  let c128_i32_175 : BitVec 32 := 128#32
  let v191 : BitVec 32 := Scalar.muli v190 c128_i32_175
  let v192 : Index := Scalar.indexCast v191
  let c0_176 : Index := 0#32
  ![v192.toNat, 0]
def k0_off10 (d0 : Dev nD) (c1_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_172 : BitVec 32 := 16#32
  let v188 : BitVec 32 := Scalar.addi v32 c16_i32_172
  let v189 : BitVec 32 := Scalar.subi v188 c1_i32_173
  let c16_i32_174 : BitVec 32 := 16#32
  let v190 : BitVec 32 := Scalar.remsi v189 c16_i32_174
  let c128_i32_180 : BitVec 32 := 128#32
  let v198 : BitVec 32 := Scalar.muli v190 c128_i32_180
  let v199 : Index := Scalar.indexCast v198
  let c0_181 : Index := 0#32
  ![v199.toNat, 0]
def k0_off11 (d0 : Dev nD) (c0_i32_229 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c32_i32 : BitVec 32 := 32#32
  let v240 : BitVec 32 := Scalar.addi v32 c32_i32
  let c1_i32_228 : BitVec 32 := 1#32
  let v241 : BitVec 32 := Scalar.subi v240 c1_i32_228
  let v242 : BitVec 32 := Scalar.subi v241 c0_i32_229
  let c16_i32_230 : BitVec 32 := 16#32
  let v243 : BitVec 32 := Scalar.remsi v242 c16_i32_230
  let c128_i32_235 : BitVec 32 := 128#32
  let v246 : BitVec 32 := Scalar.muli v243 c128_i32_235
  let v247 : Index := Scalar.indexCast v246
  let c0_236 : Index := 0#32
  ![v247.toNat, 0]
def k0_dev7 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_243 : BitVec 32 := 1#32
  let v256 : BitVec 32 := Scalar.muli v92 c1_i32_243
  let v257 : BitVec 32 := Scalar.addi c0_i32_244 v256
  v257.toNat
def k0_dev8 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_256 : BitVec 32 := 1#32
  let v260 : BitVec 32 := Scalar.muli v62 c1_i32_256
  let v261 : BitVec 32 := Scalar.addi c0_i32_257 v260
  v261.toNat
def k0_off12 (d0 : Dev nD) (c0_i32_290 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_289 : BitVec 32 := 1#32
  let v284 : BitVec 32 := Scalar.addi v32 c1_i32_289
  let v285 : BitVec 32 := Scalar.addi v284 c0_i32_290
  let c16_i32_291 : BitVec 32 := 16#32
  let v286 : BitVec 32 := Scalar.remsi v285 c16_i32_291
  let c128_i32_296 : BitVec 32 := 128#32
  let v289 : BitVec 32 := Scalar.muli v286 c128_i32_296
  let v290 : Index := Scalar.indexCast v289
  let c1024_297 : Index := 1024#32
  ![v290.toNat, 1024]
def k0_dev9 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_304 : BitVec 32 := 1#32
  let v299 : BitVec 32 := Scalar.muli v62 c1_i32_304
  let v300 : BitVec 32 := Scalar.addi c0_i32_305 v299
  v300.toNat
def k0_dev10 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_317 : BitVec 32 := 1#32
  let v303 : BitVec 32 := Scalar.muli v92 c1_i32_317
  let v304 : BitVec 32 := Scalar.addi c0_i32_318 v303
  v304.toNat
def k0_off13 (d0 : Dev nD) (c0_i32_352 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c32_i32_350 : BitVec 32 := 32#32
  let v327 : BitVec 32 := Scalar.addi v32 c32_i32_350
  let c1_i32_351 : BitVec 32 := 1#32
  let v328 : BitVec 32 := Scalar.subi v327 c1_i32_351
  let v329 : BitVec 32 := Scalar.subi v328 c0_i32_352
  let c16_i32_353 : BitVec 32 := 16#32
  let v330 : BitVec 32 := Scalar.remsi v329 c16_i32_353
  let c128_i32_358 : BitVec 32 := 128#32
  let v333 : BitVec 32 := Scalar.muli v330 c128_i32_358
  let v334 : Index := Scalar.indexCast v333
  let c512_359 : Index := 512#32
  ![v334.toNat, 512]
def k0_dev11 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_366 : BitVec 32 := 1#32
  let v343 : BitVec 32 := Scalar.muli v92 c1_i32_366
  let v344 : BitVec 32 := Scalar.addi c0_i32_367 v343
  v344.toNat
def k0_dev12 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_379 : BitVec 32 := 1#32
  let v347 : BitVec 32 := Scalar.muli v62 c1_i32_379
  let v348 : BitVec 32 := Scalar.addi c0_i32_380 v347
  v348.toNat
def k0_off14 (d0 : Dev nD) (c0_i32_413 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_412 : BitVec 32 := 1#32
  let v371 : BitVec 32 := Scalar.addi v32 c1_i32_412
  let v372 : BitVec 32 := Scalar.addi v371 c0_i32_413
  let c16_i32_414 : BitVec 32 := 16#32
  let v373 : BitVec 32 := Scalar.remsi v372 c16_i32_414
  let c128_i32_419 : BitVec 32 := 128#32
  let v376 : BitVec 32 := Scalar.muli v373 c128_i32_419
  let v377 : Index := Scalar.indexCast v376
  let c1536_420 : Index := 1536#32
  ![v377.toNat, 1536]
def k0_dev13 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_427 : BitVec 32 := 1#32
  let v386 : BitVec 32 := Scalar.muli v62 c1_i32_427
  let v387 : BitVec 32 := Scalar.addi c0_i32_428 v386
  v387.toNat
def k0_dev14 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_440 : BitVec 32 := 1#32
  let v390 : BitVec 32 := Scalar.muli v92 c1_i32_440
  let v391 : BitVec 32 := Scalar.addi c0_i32_441 v390
  v391.toNat
def k0_dev15 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_508 : BitVec 32 := 1#32
  let v455 : BitVec 32 := Scalar.muli v92 c1_i32_508
  let v456 : BitVec 32 := Scalar.addi c0_i32_509 v455
  v456.toNat
def k0_dev16 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_521 : BitVec 32 := 1#32
  let v459 : BitVec 32 := Scalar.muli v62 c1_i32_521
  let v460 : BitVec 32 := Scalar.addi c0_i32_522 v459
  v460.toNat
def k0_dev17 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_569 : BitVec 32 := 1#32
  let v498 : BitVec 32 := Scalar.muli v62 c1_i32_569
  let v499 : BitVec 32 := Scalar.addi c0_i32_570 v498
  v499.toNat
def k0_dev18 (d0 : Dev nD) : Nat :=
  let c0_i32_583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_582 : BitVec 32 := 1#32
  let v502 : BitVec 32 := Scalar.muli v92 c1_i32_582
  let v503 : BitVec 32 := Scalar.addi c0_i32_583 v502
  v503.toNat
def k0_dev19 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_631 : BitVec 32 := 1#32
  let v542 : BitVec 32 := Scalar.muli v92 c1_i32_631
  let v543 : BitVec 32 := Scalar.addi c0_i32_632 v542
  v543.toNat
def k0_dev20 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_644 : BitVec 32 := 1#32
  let v546 : BitVec 32 := Scalar.muli v62 c1_i32_644
  let v547 : BitVec 32 := Scalar.addi c0_i32_645 v546
  v547.toNat
def k0_dev21 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_692 : BitVec 32 := 1#32
  let v585 : BitVec 32 := Scalar.muli v62 c1_i32_692
  let v586 : BitVec 32 := Scalar.addi c0_i32_693 v585
  v586.toNat
def k0_dev22 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_705 : BitVec 32 := 1#32
  let v589 : BitVec 32 := Scalar.muli v92 c1_i32_705
  let v590 : BitVec 32 := Scalar.addi c0_i32_706 v589
  v590.toNat
def k0_dev23 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_773 : BitVec 32 := 1#32
  let v654 : BitVec 32 := Scalar.muli v92 c1_i32_773
  let v655 : BitVec 32 := Scalar.addi c0_i32_774 v654
  v655.toNat
def k0_dev24 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_786 : BitVec 32 := 1#32
  let v658 : BitVec 32 := Scalar.muli v62 c1_i32_786
  let v659 : BitVec 32 := Scalar.addi c0_i32_787 v658
  v659.toNat
def k0_dev25 (d0 : Dev nD) : Nat :=
  let c0_i32_835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_834 : BitVec 32 := 1#32
  let v697 : BitVec 32 := Scalar.muli v62 c1_i32_834
  let v698 : BitVec 32 := Scalar.addi c0_i32_835 v697
  v698.toNat
def k0_dev26 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_847 : BitVec 32 := 1#32
  let v701 : BitVec 32 := Scalar.muli v92 c1_i32_847
  let v702 : BitVec 32 := Scalar.addi c0_i32_848 v701
  v702.toNat
def k0_dev27 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_896 : BitVec 32 := 1#32
  let v741 : BitVec 32 := Scalar.muli v92 c1_i32_896
  let v742 : BitVec 32 := Scalar.addi c0_i32_897 v741
  v742.toNat
def k0_dev28 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_909 : BitVec 32 := 1#32
  let v745 : BitVec 32 := Scalar.muli v62 c1_i32_909
  let v746 : BitVec 32 := Scalar.addi c0_i32_910 v745
  v746.toNat
def k0_dev29 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_957 : BitVec 32 := 1#32
  let v784 : BitVec 32 := Scalar.muli v62 c1_i32_957
  let v785 : BitVec 32 := Scalar.addi c0_i32_958 v784
  v785.toNat
def k0_dev30 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_970 : BitVec 32 := 1#32
  let v788 : BitVec 32 := Scalar.muli v92 c1_i32_970
  let v789 : BitVec 32 := Scalar.addi c0_i32_971 v788
  v789.toNat
def k0_dev31 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1038 : BitVec 32 := 1#32
  let v853 : BitVec 32 := Scalar.muli v92 c1_i32_1038
  let v854 : BitVec 32 := Scalar.addi c0_i32_1039 v853
  v854.toNat
def k0_dev32 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1051 : BitVec 32 := 1#32
  let v857 : BitVec 32 := Scalar.muli v62 c1_i32_1051
  let v858 : BitVec 32 := Scalar.addi c0_i32_1052 v857
  v858.toNat
def k0_dev33 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1099 : BitVec 32 := 1#32
  let v896 : BitVec 32 := Scalar.muli v62 c1_i32_1099
  let v897 : BitVec 32 := Scalar.addi c0_i32_1100 v896
  v897.toNat
def k0_dev34 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1112 : BitVec 32 := 1#32
  let v900 : BitVec 32 := Scalar.muli v92 c1_i32_1112
  let v901 : BitVec 32 := Scalar.addi c0_i32_1113 v900
  v901.toNat
def k0_dev35 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1161 : BitVec 32 := 1#32
  let v940 : BitVec 32 := Scalar.muli v92 c1_i32_1161
  let v941 : BitVec 32 := Scalar.addi c0_i32_1162 v940
  v941.toNat
def k0_dev36 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1174 : BitVec 32 := 1#32
  let v944 : BitVec 32 := Scalar.muli v62 c1_i32_1174
  let v945 : BitVec 32 := Scalar.addi c0_i32_1175 v944
  v945.toNat
def k0_dev37 (d0 : Dev nD) : Nat :=
  let c0_i32_1223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1222 : BitVec 32 := 1#32
  let v983 : BitVec 32 := Scalar.muli v62 c1_i32_1222
  let v984 : BitVec 32 := Scalar.addi c0_i32_1223 v983
  v984.toNat
def k0_dev38 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1235 : BitVec 32 := 1#32
  let v987 : BitVec 32 := Scalar.muli v92 c1_i32_1235
  let v988 : BitVec 32 := Scalar.addi c0_i32_1236 v987
  v988.toNat
def k0_dev39 (d0 : Dev nD) : Nat :=
  let c0_i32_1304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1303 : BitVec 32 := 1#32
  let v1052 : BitVec 32 := Scalar.muli v92 c1_i32_1303
  let v1053 : BitVec 32 := Scalar.addi c0_i32_1304 v1052
  v1053.toNat
def k0_dev40 (d0 : Dev nD) : Nat :=
  let c0_i32_1317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1316 : BitVec 32 := 1#32
  let v1056 : BitVec 32 := Scalar.muli v62 c1_i32_1316
  let v1057 : BitVec 32 := Scalar.addi c0_i32_1317 v1056
  v1057.toNat
def k0_dev41 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1364 : BitVec 32 := 1#32
  let v1095 : BitVec 32 := Scalar.muli v62 c1_i32_1364
  let v1096 : BitVec 32 := Scalar.addi c0_i32_1365 v1095
  v1096.toNat
def k0_dev42 (d0 : Dev nD) : Nat :=
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1377 : BitVec 32 := 1#32
  let v1099 : BitVec 32 := Scalar.muli v92 c1_i32_1377
  let v1100 : BitVec 32 := Scalar.addi c0_i32_1378 v1099
  v1100.toNat
def k0_dev43 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1426 : BitVec 32 := 1#32
  let v1139 : BitVec 32 := Scalar.muli v92 c1_i32_1426
  let v1140 : BitVec 32 := Scalar.addi c0_i32_1427 v1139
  v1140.toNat
def k0_dev44 (d0 : Dev nD) : Nat :=
  let c0_i32_1440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1439 : BitVec 32 := 1#32
  let v1143 : BitVec 32 := Scalar.muli v62 c1_i32_1439
  let v1144 : BitVec 32 := Scalar.addi c0_i32_1440 v1143
  v1144.toNat
def k0_dev45 (d0 : Dev nD) : Nat :=
  let c0_i32_1488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1487 : BitVec 32 := 1#32
  let v1182 : BitVec 32 := Scalar.muli v62 c1_i32_1487
  let v1183 : BitVec 32 := Scalar.addi c0_i32_1488 v1182
  v1183.toNat
def k0_dev46 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1500 : BitVec 32 := 1#32
  let v1186 : BitVec 32 := Scalar.muli v92 c1_i32_1500
  let v1187 : BitVec 32 := Scalar.addi c0_i32_1501 v1186
  v1187.toNat
def k0_dev47 (d0 : Dev nD) : Nat :=
  let c0_i32_1569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1568 : BitVec 32 := 1#32
  let v1251 : BitVec 32 := Scalar.muli v92 c1_i32_1568
  let v1252 : BitVec 32 := Scalar.addi c0_i32_1569 v1251
  v1252.toNat
def k0_dev48 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1581 : BitVec 32 := 1#32
  let v1255 : BitVec 32 := Scalar.muli v62 c1_i32_1581
  let v1256 : BitVec 32 := Scalar.addi c0_i32_1582 v1255
  v1256.toNat
def k0_dev49 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1629 : BitVec 32 := 1#32
  let v1294 : BitVec 32 := Scalar.muli v62 c1_i32_1629
  let v1295 : BitVec 32 := Scalar.addi c0_i32_1630 v1294
  v1295.toNat
def k0_dev50 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1642 : BitVec 32 := 1#32
  let v1298 : BitVec 32 := Scalar.muli v92 c1_i32_1642
  let v1299 : BitVec 32 := Scalar.addi c0_i32_1643 v1298
  v1299.toNat
def k0_dev51 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1691 : BitVec 32 := 1#32
  let v1338 : BitVec 32 := Scalar.muli v92 c1_i32_1691
  let v1339 : BitVec 32 := Scalar.addi c0_i32_1692 v1338
  v1339.toNat
def k0_dev52 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1704 : BitVec 32 := 1#32
  let v1342 : BitVec 32 := Scalar.muli v62 c1_i32_1704
  let v1343 : BitVec 32 := Scalar.addi c0_i32_1705 v1342
  v1343.toNat
def k0_dev53 (d0 : Dev nD) : Nat :=
  let c0_i32_1753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1752 : BitVec 32 := 1#32
  let v1381 : BitVec 32 := Scalar.muli v62 c1_i32_1752
  let v1382 : BitVec 32 := Scalar.addi c0_i32_1753 v1381
  v1382.toNat
def k0_dev54 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1765 : BitVec 32 := 1#32
  let v1385 : BitVec 32 := Scalar.muli v92 c1_i32_1765
  let v1386 : BitVec 32 := Scalar.addi c0_i32_1766 v1385
  v1386.toNat
def k0_dev55 (d0 : Dev nD) : Nat :=
  let c0_i32_1824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1823 : BitVec 32 := 1#32
  let v1437 : BitVec 32 := Scalar.muli v92 c1_i32_1823
  let v1438 : BitVec 32 := Scalar.addi c0_i32_1824 v1437
  v1438.toNat
def k0_dev56 (d0 : Dev nD) : Nat :=
  let c0_i32_1837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1836 : BitVec 32 := 1#32
  let v1441 : BitVec 32 := Scalar.muli v62 c1_i32_1836
  let v1442 : BitVec 32 := Scalar.addi c0_i32_1837 v1441
  v1442.toNat
def k0_dev57 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1884 : BitVec 32 := 1#32
  let v1480 : BitVec 32 := Scalar.muli v62 c1_i32_1884
  let v1481 : BitVec 32 := Scalar.addi c0_i32_1885 v1480
  v1481.toNat
def k0_dev58 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1897 : BitVec 32 := 1#32
  let v1484 : BitVec 32 := Scalar.muli v92 c1_i32_1897
  let v1485 : BitVec 32 := Scalar.addi c0_i32_1898 v1484
  v1485.toNat
def k0_dev59 (d0 : Dev nD) : Nat :=
  let c0_i32_1947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1946 : BitVec 32 := 1#32
  let v1524 : BitVec 32 := Scalar.muli v92 c1_i32_1946
  let v1525 : BitVec 32 := Scalar.addi c0_i32_1947 v1524
  v1525.toNat
def k0_dev60 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1959 : BitVec 32 := 1#32
  let v1528 : BitVec 32 := Scalar.muli v62 c1_i32_1959
  let v1529 : BitVec 32 := Scalar.addi c0_i32_1960 v1528
  v1529.toNat
def k0_dev61 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2007 : BitVec 32 := 1#32
  let v1567 : BitVec 32 := Scalar.muli v62 c1_i32_2007
  let v1568 : BitVec 32 := Scalar.addi c0_i32_2008 v1567
  v1568.toNat
def k0_dev62 (d0 : Dev nD) : Nat :=
  let c0_i32_2021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2020 : BitVec 32 := 1#32
  let v1571 : BitVec 32 := Scalar.muli v92 c1_i32_2020
  let v1572 : BitVec 32 := Scalar.addi c0_i32_2021 v1571
  v1572.toNat
def k0_dev63 (d0 : Dev nD) : Nat :=
  let c0_i32_2070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2069 : BitVec 32 := 1#32
  let v1611 : BitVec 32 := Scalar.muli v92 c1_i32_2069
  let v1612 : BitVec 32 := Scalar.addi c0_i32_2070 v1611
  v1612.toNat
def k0_dev64 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2082 : BitVec 32 := 1#32
  let v1615 : BitVec 32 := Scalar.muli v62 c1_i32_2082
  let v1616 : BitVec 32 := Scalar.addi c0_i32_2083 v1615
  v1616.toNat
def k0_dev65 (d0 : Dev nD) : Nat :=
  let c0_i32_2131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2130 : BitVec 32 := 1#32
  let v1654 : BitVec 32 := Scalar.muli v62 c1_i32_2130
  let v1655 : BitVec 32 := Scalar.addi c0_i32_2131 v1654
  v1655.toNat
def k0_dev66 (d0 : Dev nD) : Nat :=
  let c0_i32_2144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2143 : BitVec 32 := 1#32
  let v1658 : BitVec 32 := Scalar.muli v92 c1_i32_2143
  let v1659 : BitVec 32 := Scalar.addi c0_i32_2144 v1658
  v1659.toNat
def k0_dev67 (d0 : Dev nD) : Nat :=
  let c0_i32_2193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2192 : BitVec 32 := 1#32
  let v1698 : BitVec 32 := Scalar.muli v92 c1_i32_2192
  let v1699 : BitVec 32 := Scalar.addi c0_i32_2193 v1698
  v1699.toNat
def k0_dev68 (d0 : Dev nD) : Nat :=
  let c0_i32_2206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2205 : BitVec 32 := 1#32
  let v1702 : BitVec 32 := Scalar.muli v62 c1_i32_2205
  let v1703 : BitVec 32 := Scalar.addi c0_i32_2206 v1702
  v1703.toNat
def k0_dev69 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2253 : BitVec 32 := 1#32
  let v1741 : BitVec 32 := Scalar.muli v62 c1_i32_2253
  let v1742 : BitVec 32 := Scalar.addi c0_i32_2254 v1741
  v1742.toNat
def k0_dev70 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2266 : BitVec 32 := 1#32
  let v1745 : BitVec 32 := Scalar.muli v92 c1_i32_2266
  let v1746 : BitVec 32 := Scalar.addi c0_i32_2267 v1745
  v1746.toNat
def k0_dev71 (d0 : Dev nD) : Nat :=
  let c0_i32_2316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2315 : BitVec 32 := 1#32
  let v1785 : BitVec 32 := Scalar.muli v92 c1_i32_2315
  let v1786 : BitVec 32 := Scalar.addi c0_i32_2316 v1785
  v1786.toNat
def k0_dev72 (d0 : Dev nD) : Nat :=
  let c0_i32_2329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2328 : BitVec 32 := 1#32
  let v1789 : BitVec 32 := Scalar.muli v62 c1_i32_2328
  let v1790 : BitVec 32 := Scalar.addi c0_i32_2329 v1789
  v1790.toNat
def k0_dev73 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2376 : BitVec 32 := 1#32
  let v1828 : BitVec 32 := Scalar.muli v62 c1_i32_2376
  let v1829 : BitVec 32 := Scalar.addi c0_i32_2377 v1828
  v1829.toNat
def k0_dev74 (d0 : Dev nD) : Nat :=
  let c0_i32_2390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2389 : BitVec 32 := 1#32
  let v1832 : BitVec 32 := Scalar.muli v92 c1_i32_2389
  let v1833 : BitVec 32 := Scalar.addi c0_i32_2390 v1832
  v1833.toNat
def k0_dev75 (d0 : Dev nD) : Nat :=
  let c0_i32_2439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2438 : BitVec 32 := 1#32
  let v1872 : BitVec 32 := Scalar.muli v92 c1_i32_2438
  let v1873 : BitVec 32 := Scalar.addi c0_i32_2439 v1872
  v1873.toNat
def k0_dev76 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2451 : BitVec 32 := 1#32
  let v1876 : BitVec 32 := Scalar.muli v62 c1_i32_2451
  let v1877 : BitVec 32 := Scalar.addi c0_i32_2452 v1876
  v1877.toNat
def k0_dev77 (d0 : Dev nD) : Nat :=
  let c0_i32_2500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2499 : BitVec 32 := 1#32
  let v1915 : BitVec 32 := Scalar.muli v62 c1_i32_2499
  let v1916 : BitVec 32 := Scalar.addi c0_i32_2500 v1915
  v1916.toNat
def k0_dev78 (d0 : Dev nD) : Nat :=
  let c0_i32_2513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2512 : BitVec 32 := 1#32
  let v1919 : BitVec 32 := Scalar.muli v92 c1_i32_2512
  let v1920 : BitVec 32 := Scalar.addi c0_i32_2513 v1919
  v1920.toNat
def k0_dev79 (d0 : Dev nD) : Nat :=
  let c0_i32_2562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2561 : BitVec 32 := 1#32
  let v1959 : BitVec 32 := Scalar.muli v92 c1_i32_2561
  let v1960 : BitVec 32 := Scalar.addi c0_i32_2562 v1959
  v1960.toNat
def k0_dev80 (d0 : Dev nD) : Nat :=
  let c0_i32_2575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2574 : BitVec 32 := 1#32
  let v1963 : BitVec 32 := Scalar.muli v62 c1_i32_2574
  let v1964 : BitVec 32 := Scalar.addi c0_i32_2575 v1963
  v1964.toNat
def k0_dev81 (d0 : Dev nD) : Nat :=
  let c0_i32_2623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2622 : BitVec 32 := 1#32
  let v2002 : BitVec 32 := Scalar.muli v62 c1_i32_2622
  let v2003 : BitVec 32 := Scalar.addi c0_i32_2623 v2002
  v2003.toNat
def k0_dev82 (d0 : Dev nD) : Nat :=
  let c0_i32_2636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2635 : BitVec 32 := 1#32
  let v2006 : BitVec 32 := Scalar.muli v92 c1_i32_2635
  let v2007 : BitVec 32 := Scalar.addi c0_i32_2636 v2006
  v2007.toNat
def k0_dev83 (d0 : Dev nD) : Nat :=
  let c0_i32_2685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2684 : BitVec 32 := 1#32
  let v2046 : BitVec 32 := Scalar.muli v92 c1_i32_2684
  let v2047 : BitVec 32 := Scalar.addi c0_i32_2685 v2046
  v2047.toNat
def k0_dev84 (d0 : Dev nD) : Nat :=
  let c0_i32_2698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2697 : BitVec 32 := 1#32
  let v2050 : BitVec 32 := Scalar.muli v62 c1_i32_2697
  let v2051 : BitVec 32 := Scalar.addi c0_i32_2698 v2050
  v2051.toNat
def k0_dev85 (d0 : Dev nD) : Nat :=
  let c0_i32_2746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2745 : BitVec 32 := 1#32
  let v2089 : BitVec 32 := Scalar.muli v62 c1_i32_2745
  let v2090 : BitVec 32 := Scalar.addi c0_i32_2746 v2089
  v2090.toNat
def k0_dev86 (d0 : Dev nD) : Nat :=
  let c0_i32_2759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2758 : BitVec 32 := 1#32
  let v2093 : BitVec 32 := Scalar.muli v92 c1_i32_2758
  let v2094 : BitVec 32 := Scalar.addi c0_i32_2759 v2093
  v2094.toNat
def k0_dev87 (d0 : Dev nD) : Nat :=
  let c0_i32_2808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2807 : BitVec 32 := 1#32
  let v2133 : BitVec 32 := Scalar.muli v92 c1_i32_2807
  let v2134 : BitVec 32 := Scalar.addi c0_i32_2808 v2133
  v2134.toNat
def k0_dev88 (d0 : Dev nD) : Nat :=
  let c0_i32_2821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2820 : BitVec 32 := 1#32
  let v2137 : BitVec 32 := Scalar.muli v62 c1_i32_2820
  let v2138 : BitVec 32 := Scalar.addi c0_i32_2821 v2137
  v2138.toNat
def k0_dev89 (d0 : Dev nD) : Nat :=
  let c0_i32_2869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2868 : BitVec 32 := 1#32
  let v2176 : BitVec 32 := Scalar.muli v62 c1_i32_2868
  let v2177 : BitVec 32 := Scalar.addi c0_i32_2869 v2176
  v2177.toNat
def k0_dev90 (d0 : Dev nD) : Nat :=
  let c0_i32_2882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2881 : BitVec 32 := 1#32
  let v2180 : BitVec 32 := Scalar.muli v92 c1_i32_2881
  let v2181 : BitVec 32 := Scalar.addi c0_i32_2882 v2180
  v2181.toNat
def k0_dev91 (d0 : Dev nD) : Nat :=
  let c0_i32_2931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_2930 : BitVec 32 := 1#32
  let v2220 : BitVec 32 := Scalar.muli v92 c1_i32_2930
  let v2221 : BitVec 32 := Scalar.addi c0_i32_2931 v2220
  v2221.toNat
def k0_dev92 (d0 : Dev nD) : Nat :=
  let c0_i32_2944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2943 : BitVec 32 := 1#32
  let v2224 : BitVec 32 := Scalar.muli v62 c1_i32_2943
  let v2225 : BitVec 32 := Scalar.addi c0_i32_2944 v2224
  v2225.toNat
def k0_dev93 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_2991 : BitVec 32 := 1#32
  let v2263 : BitVec 32 := Scalar.muli v62 c1_i32_2991
  let v2264 : BitVec 32 := Scalar.addi c0_i32_2992 v2263
  v2264.toNat
def k0_dev94 (d0 : Dev nD) : Nat :=
  let c0_i32_3005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3004 : BitVec 32 := 1#32
  let v2267 : BitVec 32 := Scalar.muli v92 c1_i32_3004
  let v2268 : BitVec 32 := Scalar.addi c0_i32_3005 v2267
  v2268.toNat
def k0_dev95 (d0 : Dev nD) : Nat :=
  let c0_i32_3054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3053 : BitVec 32 := 1#32
  let v2307 : BitVec 32 := Scalar.muli v92 c1_i32_3053
  let v2308 : BitVec 32 := Scalar.addi c0_i32_3054 v2307
  v2308.toNat
def k0_dev96 (d0 : Dev nD) : Nat :=
  let c0_i32_3067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3066 : BitVec 32 := 1#32
  let v2311 : BitVec 32 := Scalar.muli v62 c1_i32_3066
  let v2312 : BitVec 32 := Scalar.addi c0_i32_3067 v2311
  v2312.toNat
def k0_dev97 (d0 : Dev nD) : Nat :=
  let c0_i32_3115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3114 : BitVec 32 := 1#32
  let v2350 : BitVec 32 := Scalar.muli v62 c1_i32_3114
  let v2351 : BitVec 32 := Scalar.addi c0_i32_3115 v2350
  v2351.toNat
def k0_dev98 (d0 : Dev nD) : Nat :=
  let c0_i32_3128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3127 : BitVec 32 := 1#32
  let v2354 : BitVec 32 := Scalar.muli v92 c1_i32_3127
  let v2355 : BitVec 32 := Scalar.addi c0_i32_3128 v2354
  v2355.toNat
def k0_dev99 (d0 : Dev nD) : Nat :=
  let c0_i32_3177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3176 : BitVec 32 := 1#32
  let v2394 : BitVec 32 := Scalar.muli v92 c1_i32_3176
  let v2395 : BitVec 32 := Scalar.addi c0_i32_3177 v2394
  v2395.toNat
def k0_dev100 (d0 : Dev nD) : Nat :=
  let c0_i32_3190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3189 : BitVec 32 := 1#32
  let v2398 : BitVec 32 := Scalar.muli v62 c1_i32_3189
  let v2399 : BitVec 32 := Scalar.addi c0_i32_3190 v2398
  v2399.toNat
def k0_dev101 (d0 : Dev nD) : Nat :=
  let c0_i32_3238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3237 : BitVec 32 := 1#32
  let v2437 : BitVec 32 := Scalar.muli v62 c1_i32_3237
  let v2438 : BitVec 32 := Scalar.addi c0_i32_3238 v2437
  v2438.toNat
def k0_dev102 (d0 : Dev nD) : Nat :=
  let c0_i32_3251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3250 : BitVec 32 := 1#32
  let v2441 : BitVec 32 := Scalar.muli v92 c1_i32_3250
  let v2442 : BitVec 32 := Scalar.addi c0_i32_3251 v2441
  v2442.toNat
def k0_dev103 (d0 : Dev nD) : Nat :=
  let c0_i32_3300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3299 : BitVec 32 := 1#32
  let v2481 : BitVec 32 := Scalar.muli v92 c1_i32_3299
  let v2482 : BitVec 32 := Scalar.addi c0_i32_3300 v2481
  v2482.toNat
def k0_dev104 (d0 : Dev nD) : Nat :=
  let c0_i32_3313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3312 : BitVec 32 := 1#32
  let v2485 : BitVec 32 := Scalar.muli v62 c1_i32_3312
  let v2486 : BitVec 32 := Scalar.addi c0_i32_3313 v2485
  v2486.toNat
def k0_dev105 (d0 : Dev nD) : Nat :=
  let c0_i32_3361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3360 : BitVec 32 := 1#32
  let v2524 : BitVec 32 := Scalar.muli v62 c1_i32_3360
  let v2525 : BitVec 32 := Scalar.addi c0_i32_3361 v2524
  v2525.toNat
def k0_dev106 (d0 : Dev nD) : Nat :=
  let c0_i32_3374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3373 : BitVec 32 := 1#32
  let v2528 : BitVec 32 := Scalar.muli v92 c1_i32_3373
  let v2529 : BitVec 32 := Scalar.addi c0_i32_3374 v2528
  v2529.toNat
def k0_dev107 (d0 : Dev nD) : Nat :=
  let c0_i32_3423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3422 : BitVec 32 := 1#32
  let v2568 : BitVec 32 := Scalar.muli v92 c1_i32_3422
  let v2569 : BitVec 32 := Scalar.addi c0_i32_3423 v2568
  v2569.toNat
def k0_dev108 (d0 : Dev nD) : Nat :=
  let c0_i32_3436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3435 : BitVec 32 := 1#32
  let v2572 : BitVec 32 := Scalar.muli v62 c1_i32_3435
  let v2573 : BitVec 32 := Scalar.addi c0_i32_3436 v2572
  v2573.toNat
def k0_dev109 (d0 : Dev nD) : Nat :=
  let c0_i32_3484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3483 : BitVec 32 := 1#32
  let v2611 : BitVec 32 := Scalar.muli v62 c1_i32_3483
  let v2612 : BitVec 32 := Scalar.addi c0_i32_3484 v2611
  v2612.toNat
def k0_dev110 (d0 : Dev nD) : Nat :=
  let c0_i32_3497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3496 : BitVec 32 := 1#32
  let v2615 : BitVec 32 := Scalar.muli v92 c1_i32_3496
  let v2616 : BitVec 32 := Scalar.addi c0_i32_3497 v2615
  v2616.toNat
def k0_dev111 (d0 : Dev nD) : Nat :=
  let c0_i32_3546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3545 : BitVec 32 := 1#32
  let v2655 : BitVec 32 := Scalar.muli v92 c1_i32_3545
  let v2656 : BitVec 32 := Scalar.addi c0_i32_3546 v2655
  v2656.toNat
def k0_dev112 (d0 : Dev nD) : Nat :=
  let c0_i32_3559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3558 : BitVec 32 := 1#32
  let v2659 : BitVec 32 := Scalar.muli v62 c1_i32_3558
  let v2660 : BitVec 32 := Scalar.addi c0_i32_3559 v2659
  v2660.toNat
def k0_dev113 (d0 : Dev nD) : Nat :=
  let c0_i32_3607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3606 : BitVec 32 := 1#32
  let v2698 : BitVec 32 := Scalar.muli v62 c1_i32_3606
  let v2699 : BitVec 32 := Scalar.addi c0_i32_3607 v2698
  v2699.toNat
def k0_dev114 (d0 : Dev nD) : Nat :=
  let c0_i32_3620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3619 : BitVec 32 := 1#32
  let v2702 : BitVec 32 := Scalar.muli v92 c1_i32_3619
  let v2703 : BitVec 32 := Scalar.addi c0_i32_3620 v2702
  v2703.toNat
def k0_dev115 (d0 : Dev nD) : Nat :=
  let c0_i32_3669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3668 : BitVec 32 := 1#32
  let v2742 : BitVec 32 := Scalar.muli v92 c1_i32_3668
  let v2743 : BitVec 32 := Scalar.addi c0_i32_3669 v2742
  v2743.toNat
def k0_dev116 (d0 : Dev nD) : Nat :=
  let c0_i32_3682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3681 : BitVec 32 := 1#32
  let v2746 : BitVec 32 := Scalar.muli v62 c1_i32_3681
  let v2747 : BitVec 32 := Scalar.addi c0_i32_3682 v2746
  v2747.toNat
def k0_dev117 (d0 : Dev nD) : Nat :=
  let c0_i32_3730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3729 : BitVec 32 := 1#32
  let v2785 : BitVec 32 := Scalar.muli v62 c1_i32_3729
  let v2786 : BitVec 32 := Scalar.addi c0_i32_3730 v2785
  v2786.toNat
def k0_dev118 (d0 : Dev nD) : Nat :=
  let c0_i32_3743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3742 : BitVec 32 := 1#32
  let v2789 : BitVec 32 := Scalar.muli v92 c1_i32_3742
  let v2790 : BitVec 32 := Scalar.addi c0_i32_3743 v2789
  v2790.toNat
def k0_dev119 (d0 : Dev nD) : Nat :=
  let c0_i32_3798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3797 : BitVec 32 := 1#32
  let v2842 : BitVec 32 := Scalar.muli v92 c1_i32_3797
  let v2843 : BitVec 32 := Scalar.addi c0_i32_3798 v2842
  v2843.toNat
def k0_dev120 (d0 : Dev nD) : Nat :=
  let c0_i32_3811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3810 : BitVec 32 := 1#32
  let v2846 : BitVec 32 := Scalar.muli v62 c1_i32_3810
  let v2847 : BitVec 32 := Scalar.addi c0_i32_3811 v2846
  v2847.toNat
def k0_dev121 (d0 : Dev nD) : Nat :=
  let c0_i32_3865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3864 : BitVec 32 := 1#32
  let v2898 : BitVec 32 := Scalar.muli v62 c1_i32_3864
  let v2899 : BitVec 32 := Scalar.addi c0_i32_3865 v2898
  v2899.toNat
def k0_dev122 (d0 : Dev nD) : Nat :=
  let c0_i32_3878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3877 : BitVec 32 := 1#32
  let v2902 : BitVec 32 := Scalar.muli v92 c1_i32_3877
  let v2903 : BitVec 32 := Scalar.addi c0_i32_3878 v2902
  v2903.toNat
def k0_dev123 (d0 : Dev nD) : Nat :=
  let c0_i32_3933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_3932 : BitVec 32 := 1#32
  let v2955 : BitVec 32 := Scalar.muli v92 c1_i32_3932
  let v2956 : BitVec 32 := Scalar.addi c0_i32_3933 v2955
  v2956.toNat
def k0_dev124 (d0 : Dev nD) : Nat :=
  let c0_i32_3946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3945 : BitVec 32 := 1#32
  let v2959 : BitVec 32 := Scalar.muli v62 c1_i32_3945
  let v2960 : BitVec 32 := Scalar.addi c0_i32_3946 v2959
  v2960.toNat
def k0_dev125 (d0 : Dev nD) : Nat :=
  let c0_i32_4000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_3999 : BitVec 32 := 1#32
  let v3011 : BitVec 32 := Scalar.muli v62 c1_i32_3999
  let v3012 : BitVec 32 := Scalar.addi c0_i32_4000 v3011
  v3012.toNat
def k0_dev126 (d0 : Dev nD) : Nat :=
  let c0_i32_4013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4012 : BitVec 32 := 1#32
  let v3015 : BitVec 32 := Scalar.muli v92 c1_i32_4012
  let v3016 : BitVec 32 := Scalar.addi c0_i32_4013 v3015
  v3016.toNat
def k0_dev127 (d0 : Dev nD) : Nat :=
  let c0_i32_4058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4057 : BitVec 32 := 1#32
  let v3050 : BitVec 32 := Scalar.muli v92 c1_i32_4057
  let v3051 : BitVec 32 := Scalar.addi c0_i32_4058 v3050
  v3051.toNat
def k0_dev128 (d0 : Dev nD) : Nat :=
  let c0_i32_4071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4070 : BitVec 32 := 1#32
  let v3054 : BitVec 32 := Scalar.muli v62 c1_i32_4070
  let v3055 : BitVec 32 := Scalar.addi c0_i32_4071 v3054
  v3055.toNat
def k0_dev129 (d0 : Dev nD) : Nat :=
  let c0_i32_4115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4114 : BitVec 32 := 1#32
  let v3088 : BitVec 32 := Scalar.muli v62 c1_i32_4114
  let v3089 : BitVec 32 := Scalar.addi c0_i32_4115 v3088
  v3089.toNat
def k0_dev130 (d0 : Dev nD) : Nat :=
  let c0_i32_4128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4127 : BitVec 32 := 1#32
  let v3092 : BitVec 32 := Scalar.muli v92 c1_i32_4127
  let v3093 : BitVec 32 := Scalar.addi c0_i32_4128 v3092
  v3093.toNat
def k0_dev131 (d0 : Dev nD) : Nat :=
  let c0_i32_4173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4172 : BitVec 32 := 1#32
  let v3127 : BitVec 32 := Scalar.muli v92 c1_i32_4172
  let v3128 : BitVec 32 := Scalar.addi c0_i32_4173 v3127
  v3128.toNat
def k0_dev132 (d0 : Dev nD) : Nat :=
  let c0_i32_4186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4185 : BitVec 32 := 1#32
  let v3131 : BitVec 32 := Scalar.muli v62 c1_i32_4185
  let v3132 : BitVec 32 := Scalar.addi c0_i32_4186 v3131
  v3132.toNat
def k0_dev133 (d0 : Dev nD) : Nat :=
  let c0_i32_4230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4229 : BitVec 32 := 1#32
  let v3165 : BitVec 32 := Scalar.muli v62 c1_i32_4229
  let v3166 : BitVec 32 := Scalar.addi c0_i32_4230 v3165
  v3166.toNat
def k0_dev134 (d0 : Dev nD) : Nat :=
  let c0_i32_4243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4242 : BitVec 32 := 1#32
  let v3169 : BitVec 32 := Scalar.muli v92 c1_i32_4242
  let v3170 : BitVec 32 := Scalar.addi c0_i32_4243 v3169
  v3170.toNat
def k0_dev135 (d0 : Dev nD) : Nat :=
  let c0_i32_4288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4287 : BitVec 32 := 1#32
  let v3204 : BitVec 32 := Scalar.muli v92 c1_i32_4287
  let v3205 : BitVec 32 := Scalar.addi c0_i32_4288 v3204
  v3205.toNat
def k0_dev136 (d0 : Dev nD) : Nat :=
  let c0_i32_4301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4300 : BitVec 32 := 1#32
  let v3208 : BitVec 32 := Scalar.muli v62 c1_i32_4300
  let v3209 : BitVec 32 := Scalar.addi c0_i32_4301 v3208
  v3209.toNat
def k0_dev137 (d0 : Dev nD) : Nat :=
  let c0_i32_4345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4344 : BitVec 32 := 1#32
  let v3242 : BitVec 32 := Scalar.muli v62 c1_i32_4344
  let v3243 : BitVec 32 := Scalar.addi c0_i32_4345 v3242
  v3243.toNat
def k0_dev138 (d0 : Dev nD) : Nat :=
  let c0_i32_4358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4357 : BitVec 32 := 1#32
  let v3246 : BitVec 32 := Scalar.muli v92 c1_i32_4357
  let v3247 : BitVec 32 := Scalar.addi c0_i32_4358 v3246
  v3247.toNat
def k0_dev139 (d0 : Dev nD) : Nat :=
  let c0_i32_4403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4402 : BitVec 32 := 1#32
  let v3281 : BitVec 32 := Scalar.muli v92 c1_i32_4402
  let v3282 : BitVec 32 := Scalar.addi c0_i32_4403 v3281
  v3282.toNat
def k0_dev140 (d0 : Dev nD) : Nat :=
  let c0_i32_4416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4415 : BitVec 32 := 1#32
  let v3285 : BitVec 32 := Scalar.muli v62 c1_i32_4415
  let v3286 : BitVec 32 := Scalar.addi c0_i32_4416 v3285
  v3286.toNat
def k0_dev141 (d0 : Dev nD) : Nat :=
  let c0_i32_4460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4459 : BitVec 32 := 1#32
  let v3319 : BitVec 32 := Scalar.muli v62 c1_i32_4459
  let v3320 : BitVec 32 := Scalar.addi c0_i32_4460 v3319
  v3320.toNat
def k0_dev142 (d0 : Dev nD) : Nat :=
  let c0_i32_4473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4472 : BitVec 32 := 1#32
  let v3323 : BitVec 32 := Scalar.muli v92 c1_i32_4472
  let v3324 : BitVec 32 := Scalar.addi c0_i32_4473 v3323
  v3324.toNat
def k0_dev143 (d0 : Dev nD) : Nat :=
  let c0_i32_4517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4516 : BitVec 32 := 1#32
  let v3358 : BitVec 32 := Scalar.muli v92 c1_i32_4516
  let v3359 : BitVec 32 := Scalar.addi c0_i32_4517 v3358
  v3359.toNat
def k0_dev144 (d0 : Dev nD) : Nat :=
  let c0_i32_4530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4529 : BitVec 32 := 1#32
  let v3362 : BitVec 32 := Scalar.muli v62 c1_i32_4529
  let v3363 : BitVec 32 := Scalar.addi c0_i32_4530 v3362
  v3363.toNat
def k0_dev145 (d0 : Dev nD) : Nat :=
  let c0_i32_4574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4573 : BitVec 32 := 1#32
  let v3396 : BitVec 32 := Scalar.muli v62 c1_i32_4573
  let v3397 : BitVec 32 := Scalar.addi c0_i32_4574 v3396
  v3397.toNat
def k0_dev146 (d0 : Dev nD) : Nat :=
  let c0_i32_4587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4586 : BitVec 32 := 1#32
  let v3400 : BitVec 32 := Scalar.muli v92 c1_i32_4586
  let v3401 : BitVec 32 := Scalar.addi c0_i32_4587 v3400
  v3401.toNat
def k0_dev147 (d0 : Dev nD) : Nat :=
  let c0_i32_4632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4631 : BitVec 32 := 1#32
  let v3435 : BitVec 32 := Scalar.muli v92 c1_i32_4631
  let v3436 : BitVec 32 := Scalar.addi c0_i32_4632 v3435
  v3436.toNat
def k0_dev148 (d0 : Dev nD) : Nat :=
  let c0_i32_4645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4644 : BitVec 32 := 1#32
  let v3439 : BitVec 32 := Scalar.muli v62 c1_i32_4644
  let v3440 : BitVec 32 := Scalar.addi c0_i32_4645 v3439
  v3440.toNat
def k0_dev149 (d0 : Dev nD) : Nat :=
  let c0_i32_4689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4688 : BitVec 32 := 1#32
  let v3473 : BitVec 32 := Scalar.muli v62 c1_i32_4688
  let v3474 : BitVec 32 := Scalar.addi c0_i32_4689 v3473
  v3474.toNat
def k0_dev150 (d0 : Dev nD) : Nat :=
  let c0_i32_4702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4701 : BitVec 32 := 1#32
  let v3477 : BitVec 32 := Scalar.muli v92 c1_i32_4701
  let v3478 : BitVec 32 := Scalar.addi c0_i32_4702 v3477
  v3478.toNat
def k0_dev151 (d0 : Dev nD) : Nat :=
  let c0_i32_4746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4745 : BitVec 32 := 1#32
  let v3512 : BitVec 32 := Scalar.muli v92 c1_i32_4745
  let v3513 : BitVec 32 := Scalar.addi c0_i32_4746 v3512
  v3513.toNat
def k0_dev152 (d0 : Dev nD) : Nat :=
  let c0_i32_4759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4758 : BitVec 32 := 1#32
  let v3516 : BitVec 32 := Scalar.muli v62 c1_i32_4758
  let v3517 : BitVec 32 := Scalar.addi c0_i32_4759 v3516
  v3517.toNat
def k0_dev153 (d0 : Dev nD) : Nat :=
  let c0_i32_4803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4802 : BitVec 32 := 1#32
  let v3550 : BitVec 32 := Scalar.muli v62 c1_i32_4802
  let v3551 : BitVec 32 := Scalar.addi c0_i32_4803 v3550
  v3551.toNat
def k0_dev154 (d0 : Dev nD) : Nat :=
  let c0_i32_4816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4815 : BitVec 32 := 1#32
  let v3554 : BitVec 32 := Scalar.muli v92 c1_i32_4815
  let v3555 : BitVec 32 := Scalar.addi c0_i32_4816 v3554
  v3555.toNat
def k0_dev155 (d0 : Dev nD) : Nat :=
  let c0_i32_4861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4860 : BitVec 32 := 1#32
  let v3589 : BitVec 32 := Scalar.muli v92 c1_i32_4860
  let v3590 : BitVec 32 := Scalar.addi c0_i32_4861 v3589
  v3590.toNat
def k0_dev156 (d0 : Dev nD) : Nat :=
  let c0_i32_4874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4873 : BitVec 32 := 1#32
  let v3593 : BitVec 32 := Scalar.muli v62 c1_i32_4873
  let v3594 : BitVec 32 := Scalar.addi c0_i32_4874 v3593
  v3594.toNat
def k0_dev157 (d0 : Dev nD) : Nat :=
  let c0_i32_4918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4917 : BitVec 32 := 1#32
  let v3627 : BitVec 32 := Scalar.muli v62 c1_i32_4917
  let v3628 : BitVec 32 := Scalar.addi c0_i32_4918 v3627
  v3628.toNat
def k0_dev158 (d0 : Dev nD) : Nat :=
  let c0_i32_4931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4930 : BitVec 32 := 1#32
  let v3631 : BitVec 32 := Scalar.muli v92 c1_i32_4930
  let v3632 : BitVec 32 := Scalar.addi c0_i32_4931 v3631
  v3632.toNat
def k0_dev159 (d0 : Dev nD) : Nat :=
  let c0_i32_4975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_4974 : BitVec 32 := 1#32
  let v3666 : BitVec 32 := Scalar.muli v92 c1_i32_4974
  let v3667 : BitVec 32 := Scalar.addi c0_i32_4975 v3666
  v3667.toNat
def k0_dev160 (d0 : Dev nD) : Nat :=
  let c0_i32_4988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_4987 : BitVec 32 := 1#32
  let v3670 : BitVec 32 := Scalar.muli v62 c1_i32_4987
  let v3671 : BitVec 32 := Scalar.addi c0_i32_4988 v3670
  v3671.toNat
def k0_dev161 (d0 : Dev nD) : Nat :=
  let c0_i32_5032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5031 : BitVec 32 := 1#32
  let v3704 : BitVec 32 := Scalar.muli v62 c1_i32_5031
  let v3705 : BitVec 32 := Scalar.addi c0_i32_5032 v3704
  v3705.toNat
def k0_dev162 (d0 : Dev nD) : Nat :=
  let c0_i32_5045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5044 : BitVec 32 := 1#32
  let v3708 : BitVec 32 := Scalar.muli v92 c1_i32_5044
  let v3709 : BitVec 32 := Scalar.addi c0_i32_5045 v3708
  v3709.toNat
def k0_dev163 (d0 : Dev nD) : Nat :=
  let c0_i32_5090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5089 : BitVec 32 := 1#32
  let v3743 : BitVec 32 := Scalar.muli v92 c1_i32_5089
  let v3744 : BitVec 32 := Scalar.addi c0_i32_5090 v3743
  v3744.toNat
def k0_dev164 (d0 : Dev nD) : Nat :=
  let c0_i32_5103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5102 : BitVec 32 := 1#32
  let v3747 : BitVec 32 := Scalar.muli v62 c1_i32_5102
  let v3748 : BitVec 32 := Scalar.addi c0_i32_5103 v3747
  v3748.toNat
def k0_dev165 (d0 : Dev nD) : Nat :=
  let c0_i32_5147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5146 : BitVec 32 := 1#32
  let v3781 : BitVec 32 := Scalar.muli v62 c1_i32_5146
  let v3782 : BitVec 32 := Scalar.addi c0_i32_5147 v3781
  v3782.toNat
def k0_dev166 (d0 : Dev nD) : Nat :=
  let c0_i32_5160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5159 : BitVec 32 := 1#32
  let v3785 : BitVec 32 := Scalar.muli v92 c1_i32_5159
  let v3786 : BitVec 32 := Scalar.addi c0_i32_5160 v3785
  v3786.toNat
def k0_dev167 (d0 : Dev nD) : Nat :=
  let c0_i32_5204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5203 : BitVec 32 := 1#32
  let v3820 : BitVec 32 := Scalar.muli v92 c1_i32_5203
  let v3821 : BitVec 32 := Scalar.addi c0_i32_5204 v3820
  v3821.toNat
def k0_dev168 (d0 : Dev nD) : Nat :=
  let c0_i32_5217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5216 : BitVec 32 := 1#32
  let v3824 : BitVec 32 := Scalar.muli v62 c1_i32_5216
  let v3825 : BitVec 32 := Scalar.addi c0_i32_5217 v3824
  v3825.toNat
def k0_dev169 (d0 : Dev nD) : Nat :=
  let c0_i32_5261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5260 : BitVec 32 := 1#32
  let v3858 : BitVec 32 := Scalar.muli v62 c1_i32_5260
  let v3859 : BitVec 32 := Scalar.addi c0_i32_5261 v3858
  v3859.toNat
def k0_dev170 (d0 : Dev nD) : Nat :=
  let c0_i32_5274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5273 : BitVec 32 := 1#32
  let v3862 : BitVec 32 := Scalar.muli v92 c1_i32_5273
  let v3863 : BitVec 32 := Scalar.addi c0_i32_5274 v3862
  v3863.toNat
def k0_dev171 (d0 : Dev nD) : Nat :=
  let c0_i32_5319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5318 : BitVec 32 := 1#32
  let v3897 : BitVec 32 := Scalar.muli v92 c1_i32_5318
  let v3898 : BitVec 32 := Scalar.addi c0_i32_5319 v3897
  v3898.toNat
def k0_dev172 (d0 : Dev nD) : Nat :=
  let c0_i32_5332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5331 : BitVec 32 := 1#32
  let v3901 : BitVec 32 := Scalar.muli v62 c1_i32_5331
  let v3902 : BitVec 32 := Scalar.addi c0_i32_5332 v3901
  v3902.toNat
def k0_dev173 (d0 : Dev nD) : Nat :=
  let c0_i32_5376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5375 : BitVec 32 := 1#32
  let v3935 : BitVec 32 := Scalar.muli v62 c1_i32_5375
  let v3936 : BitVec 32 := Scalar.addi c0_i32_5376 v3935
  v3936.toNat
def k0_dev174 (d0 : Dev nD) : Nat :=
  let c0_i32_5389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5388 : BitVec 32 := 1#32
  let v3939 : BitVec 32 := Scalar.muli v92 c1_i32_5388
  let v3940 : BitVec 32 := Scalar.addi c0_i32_5389 v3939
  v3940.toNat
def k0_dev175 (d0 : Dev nD) : Nat :=
  let c0_i32_5433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5432 : BitVec 32 := 1#32
  let v3974 : BitVec 32 := Scalar.muli v92 c1_i32_5432
  let v3975 : BitVec 32 := Scalar.addi c0_i32_5433 v3974
  v3975.toNat
def k0_dev176 (d0 : Dev nD) : Nat :=
  let c0_i32_5446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5445 : BitVec 32 := 1#32
  let v3978 : BitVec 32 := Scalar.muli v62 c1_i32_5445
  let v3979 : BitVec 32 := Scalar.addi c0_i32_5446 v3978
  v3979.toNat
def k0_dev177 (d0 : Dev nD) : Nat :=
  let c0_i32_5490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5489 : BitVec 32 := 1#32
  let v4012 : BitVec 32 := Scalar.muli v62 c1_i32_5489
  let v4013 : BitVec 32 := Scalar.addi c0_i32_5490 v4012
  v4013.toNat
def k0_dev178 (d0 : Dev nD) : Nat :=
  let c0_i32_5503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5502 : BitVec 32 := 1#32
  let v4016 : BitVec 32 := Scalar.muli v92 c1_i32_5502
  let v4017 : BitVec 32 := Scalar.addi c0_i32_5503 v4016
  v4017.toNat
def k0_dev179 (d0 : Dev nD) : Nat :=
  let c0_i32_5548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5547 : BitVec 32 := 1#32
  let v4051 : BitVec 32 := Scalar.muli v92 c1_i32_5547
  let v4052 : BitVec 32 := Scalar.addi c0_i32_5548 v4051
  v4052.toNat
def k0_dev180 (d0 : Dev nD) : Nat :=
  let c0_i32_5561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5560 : BitVec 32 := 1#32
  let v4055 : BitVec 32 := Scalar.muli v62 c1_i32_5560
  let v4056 : BitVec 32 := Scalar.addi c0_i32_5561 v4055
  v4056.toNat
def k0_dev181 (d0 : Dev nD) : Nat :=
  let c0_i32_5605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5604 : BitVec 32 := 1#32
  let v4089 : BitVec 32 := Scalar.muli v62 c1_i32_5604
  let v4090 : BitVec 32 := Scalar.addi c0_i32_5605 v4089
  v4090.toNat
def k0_dev182 (d0 : Dev nD) : Nat :=
  let c0_i32_5618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5617 : BitVec 32 := 1#32
  let v4093 : BitVec 32 := Scalar.muli v92 c1_i32_5617
  let v4094 : BitVec 32 := Scalar.addi c0_i32_5618 v4093
  v4094.toNat
def k0_dev183 (d0 : Dev nD) : Nat :=
  let c0_i32_5662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5661 : BitVec 32 := 1#32
  let v4128 : BitVec 32 := Scalar.muli v92 c1_i32_5661
  let v4129 : BitVec 32 := Scalar.addi c0_i32_5662 v4128
  v4129.toNat
def k0_dev184 (d0 : Dev nD) : Nat :=
  let c0_i32_5675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5674 : BitVec 32 := 1#32
  let v4132 : BitVec 32 := Scalar.muli v62 c1_i32_5674
  let v4133 : BitVec 32 := Scalar.addi c0_i32_5675 v4132
  v4133.toNat
def k0_dev185 (d0 : Dev nD) : Nat :=
  let c0_i32_5719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5718 : BitVec 32 := 1#32
  let v4166 : BitVec 32 := Scalar.muli v62 c1_i32_5718
  let v4167 : BitVec 32 := Scalar.addi c0_i32_5719 v4166
  v4167.toNat
def k0_dev186 (d0 : Dev nD) : Nat :=
  let c0_i32_5732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5731 : BitVec 32 := 1#32
  let v4170 : BitVec 32 := Scalar.muli v92 c1_i32_5731
  let v4171 : BitVec 32 := Scalar.addi c0_i32_5732 v4170
  v4171.toNat
def k0_dev187 (d0 : Dev nD) : Nat :=
  let c0_i32_5777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5776 : BitVec 32 := 1#32
  let v4205 : BitVec 32 := Scalar.muli v92 c1_i32_5776
  let v4206 : BitVec 32 := Scalar.addi c0_i32_5777 v4205
  v4206.toNat
def k0_dev188 (d0 : Dev nD) : Nat :=
  let c0_i32_5790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5789 : BitVec 32 := 1#32
  let v4209 : BitVec 32 := Scalar.muli v62 c1_i32_5789
  let v4210 : BitVec 32 := Scalar.addi c0_i32_5790 v4209
  v4210.toNat
def k0_dev189 (d0 : Dev nD) : Nat :=
  let c0_i32_5834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5833 : BitVec 32 := 1#32
  let v4243 : BitVec 32 := Scalar.muli v62 c1_i32_5833
  let v4244 : BitVec 32 := Scalar.addi c0_i32_5834 v4243
  v4244.toNat
def k0_dev190 (d0 : Dev nD) : Nat :=
  let c0_i32_5847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5846 : BitVec 32 := 1#32
  let v4247 : BitVec 32 := Scalar.muli v92 c1_i32_5846
  let v4248 : BitVec 32 := Scalar.addi c0_i32_5847 v4247
  v4248.toNat
def k0_dev191 (d0 : Dev nD) : Nat :=
  let c0_i32_5891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5890 : BitVec 32 := 1#32
  let v4282 : BitVec 32 := Scalar.muli v92 c1_i32_5890
  let v4283 : BitVec 32 := Scalar.addi c0_i32_5891 v4282
  v4283.toNat
def k0_dev192 (d0 : Dev nD) : Nat :=
  let c0_i32_5904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5903 : BitVec 32 := 1#32
  let v4286 : BitVec 32 := Scalar.muli v62 c1_i32_5903
  let v4287 : BitVec 32 := Scalar.addi c0_i32_5904 v4286
  v4287.toNat
def k0_dev193 (d0 : Dev nD) : Nat :=
  let c0_i32_5948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_5947 : BitVec 32 := 1#32
  let v4320 : BitVec 32 := Scalar.muli v62 c1_i32_5947
  let v4321 : BitVec 32 := Scalar.addi c0_i32_5948 v4320
  v4321.toNat
def k0_dev194 (d0 : Dev nD) : Nat :=
  let c0_i32_5961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_5960 : BitVec 32 := 1#32
  let v4324 : BitVec 32 := Scalar.muli v92 c1_i32_5960
  let v4325 : BitVec 32 := Scalar.addi c0_i32_5961 v4324
  v4325.toNat
def k0_dev195 (d0 : Dev nD) : Nat :=
  let c0_i32_6006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6005 : BitVec 32 := 1#32
  let v4359 : BitVec 32 := Scalar.muli v92 c1_i32_6005
  let v4360 : BitVec 32 := Scalar.addi c0_i32_6006 v4359
  v4360.toNat
def k0_dev196 (d0 : Dev nD) : Nat :=
  let c0_i32_6019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6018 : BitVec 32 := 1#32
  let v4363 : BitVec 32 := Scalar.muli v62 c1_i32_6018
  let v4364 : BitVec 32 := Scalar.addi c0_i32_6019 v4363
  v4364.toNat
def k0_dev197 (d0 : Dev nD) : Nat :=
  let c0_i32_6063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6062 : BitVec 32 := 1#32
  let v4397 : BitVec 32 := Scalar.muli v62 c1_i32_6062
  let v4398 : BitVec 32 := Scalar.addi c0_i32_6063 v4397
  v4398.toNat
def k0_dev198 (d0 : Dev nD) : Nat :=
  let c0_i32_6076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6075 : BitVec 32 := 1#32
  let v4401 : BitVec 32 := Scalar.muli v92 c1_i32_6075
  let v4402 : BitVec 32 := Scalar.addi c0_i32_6076 v4401
  v4402.toNat
def k0_dev199 (d0 : Dev nD) : Nat :=
  let c0_i32_6120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6119 : BitVec 32 := 1#32
  let v4436 : BitVec 32 := Scalar.muli v92 c1_i32_6119
  let v4437 : BitVec 32 := Scalar.addi c0_i32_6120 v4436
  v4437.toNat
def k0_dev200 (d0 : Dev nD) : Nat :=
  let c0_i32_6133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6132 : BitVec 32 := 1#32
  let v4440 : BitVec 32 := Scalar.muli v62 c1_i32_6132
  let v4441 : BitVec 32 := Scalar.addi c0_i32_6133 v4440
  v4441.toNat
def k0_dev201 (d0 : Dev nD) : Nat :=
  let c0_i32_6177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6176 : BitVec 32 := 1#32
  let v4474 : BitVec 32 := Scalar.muli v62 c1_i32_6176
  let v4475 : BitVec 32 := Scalar.addi c0_i32_6177 v4474
  v4475.toNat
def k0_dev202 (d0 : Dev nD) : Nat :=
  let c0_i32_6190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6189 : BitVec 32 := 1#32
  let v4478 : BitVec 32 := Scalar.muli v92 c1_i32_6189
  let v4479 : BitVec 32 := Scalar.addi c0_i32_6190 v4478
  v4479.toNat
def k0_dev203 (d0 : Dev nD) : Nat :=
  let c0_i32_6235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6234 : BitVec 32 := 1#32
  let v4513 : BitVec 32 := Scalar.muli v92 c1_i32_6234
  let v4514 : BitVec 32 := Scalar.addi c0_i32_6235 v4513
  v4514.toNat
def k0_dev204 (d0 : Dev nD) : Nat :=
  let c0_i32_6248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6247 : BitVec 32 := 1#32
  let v4517 : BitVec 32 := Scalar.muli v62 c1_i32_6247
  let v4518 : BitVec 32 := Scalar.addi c0_i32_6248 v4517
  v4518.toNat
def k0_dev205 (d0 : Dev nD) : Nat :=
  let c0_i32_6292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6291 : BitVec 32 := 1#32
  let v4551 : BitVec 32 := Scalar.muli v62 c1_i32_6291
  let v4552 : BitVec 32 := Scalar.addi c0_i32_6292 v4551
  v4552.toNat
def k0_dev206 (d0 : Dev nD) : Nat :=
  let c0_i32_6305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6304 : BitVec 32 := 1#32
  let v4555 : BitVec 32 := Scalar.muli v92 c1_i32_6304
  let v4556 : BitVec 32 := Scalar.addi c0_i32_6305 v4555
  v4556.toNat
def k0_dev207 (d0 : Dev nD) : Nat :=
  let c0_i32_6349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6348 : BitVec 32 := 1#32
  let v4590 : BitVec 32 := Scalar.muli v92 c1_i32_6348
  let v4591 : BitVec 32 := Scalar.addi c0_i32_6349 v4590
  v4591.toNat
def k0_dev208 (d0 : Dev nD) : Nat :=
  let c0_i32_6362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6361 : BitVec 32 := 1#32
  let v4594 : BitVec 32 := Scalar.muli v62 c1_i32_6361
  let v4595 : BitVec 32 := Scalar.addi c0_i32_6362 v4594
  v4595.toNat
def k0_dev209 (d0 : Dev nD) : Nat :=
  let c0_i32_6406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6405 : BitVec 32 := 1#32
  let v4628 : BitVec 32 := Scalar.muli v62 c1_i32_6405
  let v4629 : BitVec 32 := Scalar.addi c0_i32_6406 v4628
  v4629.toNat
def k0_dev210 (d0 : Dev nD) : Nat :=
  let c0_i32_6419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6418 : BitVec 32 := 1#32
  let v4632 : BitVec 32 := Scalar.muli v92 c1_i32_6418
  let v4633 : BitVec 32 := Scalar.addi c0_i32_6419 v4632
  v4633.toNat
def k0_dev211 (d0 : Dev nD) : Nat :=
  let c0_i32_6464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6463 : BitVec 32 := 1#32
  let v4667 : BitVec 32 := Scalar.muli v92 c1_i32_6463
  let v4668 : BitVec 32 := Scalar.addi c0_i32_6464 v4667
  v4668.toNat
def k0_dev212 (d0 : Dev nD) : Nat :=
  let c0_i32_6477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6476 : BitVec 32 := 1#32
  let v4671 : BitVec 32 := Scalar.muli v62 c1_i32_6476
  let v4672 : BitVec 32 := Scalar.addi c0_i32_6477 v4671
  v4672.toNat
def k0_dev213 (d0 : Dev nD) : Nat :=
  let c0_i32_6521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6520 : BitVec 32 := 1#32
  let v4705 : BitVec 32 := Scalar.muli v62 c1_i32_6520
  let v4706 : BitVec 32 := Scalar.addi c0_i32_6521 v4705
  v4706.toNat
def k0_dev214 (d0 : Dev nD) : Nat :=
  let c0_i32_6534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6533 : BitVec 32 := 1#32
  let v4709 : BitVec 32 := Scalar.muli v92 c1_i32_6533
  let v4710 : BitVec 32 := Scalar.addi c0_i32_6534 v4709
  v4710.toNat
def k0_dev215 (d0 : Dev nD) : Nat :=
  let c0_i32_6578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6577 : BitVec 32 := 1#32
  let v4744 : BitVec 32 := Scalar.muli v92 c1_i32_6577
  let v4745 : BitVec 32 := Scalar.addi c0_i32_6578 v4744
  v4745.toNat
def k0_dev216 (d0 : Dev nD) : Nat :=
  let c0_i32_6591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6590 : BitVec 32 := 1#32
  let v4748 : BitVec 32 := Scalar.muli v62 c1_i32_6590
  let v4749 : BitVec 32 := Scalar.addi c0_i32_6591 v4748
  v4749.toNat
def k0_dev217 (d0 : Dev nD) : Nat :=
  let c0_i32_6635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6634 : BitVec 32 := 1#32
  let v4782 : BitVec 32 := Scalar.muli v62 c1_i32_6634
  let v4783 : BitVec 32 := Scalar.addi c0_i32_6635 v4782
  v4783.toNat
def k0_dev218 (d0 : Dev nD) : Nat :=
  let c0_i32_6648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6647 : BitVec 32 := 1#32
  let v4786 : BitVec 32 := Scalar.muli v92 c1_i32_6647
  let v4787 : BitVec 32 := Scalar.addi c0_i32_6648 v4786
  v4787.toNat
def k0_dev219 (d0 : Dev nD) : Nat :=
  let c0_i32_6693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6692 : BitVec 32 := 1#32
  let v4821 : BitVec 32 := Scalar.muli v92 c1_i32_6692
  let v4822 : BitVec 32 := Scalar.addi c0_i32_6693 v4821
  v4822.toNat
def k0_dev220 (d0 : Dev nD) : Nat :=
  let c0_i32_6706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6705 : BitVec 32 := 1#32
  let v4825 : BitVec 32 := Scalar.muli v62 c1_i32_6705
  let v4826 : BitVec 32 := Scalar.addi c0_i32_6706 v4825
  v4826.toNat
def k0_dev221 (d0 : Dev nD) : Nat :=
  let c0_i32_6750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6749 : BitVec 32 := 1#32
  let v4859 : BitVec 32 := Scalar.muli v62 c1_i32_6749
  let v4860 : BitVec 32 := Scalar.addi c0_i32_6750 v4859
  v4860.toNat
def k0_dev222 (d0 : Dev nD) : Nat :=
  let c0_i32_6763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6762 : BitVec 32 := 1#32
  let v4863 : BitVec 32 := Scalar.muli v92 c1_i32_6762
  let v4864 : BitVec 32 := Scalar.addi c0_i32_6763 v4863
  v4864.toNat
def k0_dev223 (d0 : Dev nD) : Nat :=
  let c0_i32_6807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6806 : BitVec 32 := 1#32
  let v4898 : BitVec 32 := Scalar.muli v92 c1_i32_6806
  let v4899 : BitVec 32 := Scalar.addi c0_i32_6807 v4898
  v4899.toNat
def k0_dev224 (d0 : Dev nD) : Nat :=
  let c0_i32_6820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6819 : BitVec 32 := 1#32
  let v4902 : BitVec 32 := Scalar.muli v62 c1_i32_6819
  let v4903 : BitVec 32 := Scalar.addi c0_i32_6820 v4902
  v4903.toNat
def k0_dev225 (d0 : Dev nD) : Nat :=
  let c0_i32_6864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6863 : BitVec 32 := 1#32
  let v4936 : BitVec 32 := Scalar.muli v62 c1_i32_6863
  let v4937 : BitVec 32 := Scalar.addi c0_i32_6864 v4936
  v4937.toNat
def k0_dev226 (d0 : Dev nD) : Nat :=
  let c0_i32_6877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6876 : BitVec 32 := 1#32
  let v4940 : BitVec 32 := Scalar.muli v92 c1_i32_6876
  let v4941 : BitVec 32 := Scalar.addi c0_i32_6877 v4940
  v4941.toNat
def k0_dev227 (d0 : Dev nD) : Nat :=
  let c0_i32_6922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6921 : BitVec 32 := 1#32
  let v4975 : BitVec 32 := Scalar.muli v92 c1_i32_6921
  let v4976 : BitVec 32 := Scalar.addi c0_i32_6922 v4975
  v4976.toNat
def k0_dev228 (d0 : Dev nD) : Nat :=
  let c0_i32_6935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6934 : BitVec 32 := 1#32
  let v4979 : BitVec 32 := Scalar.muli v62 c1_i32_6934
  let v4980 : BitVec 32 := Scalar.addi c0_i32_6935 v4979
  v4980.toNat
def k0_dev229 (d0 : Dev nD) : Nat :=
  let c0_i32_6979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_6978 : BitVec 32 := 1#32
  let v5013 : BitVec 32 := Scalar.muli v62 c1_i32_6978
  let v5014 : BitVec 32 := Scalar.addi c0_i32_6979 v5013
  v5014.toNat
def k0_dev230 (d0 : Dev nD) : Nat :=
  let c0_i32_6992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_6991 : BitVec 32 := 1#32
  let v5017 : BitVec 32 := Scalar.muli v92 c1_i32_6991
  let v5018 : BitVec 32 := Scalar.addi c0_i32_6992 v5017
  v5018.toNat
def k0_dev231 (d0 : Dev nD) : Nat :=
  let c0_i32_7036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_7035 : BitVec 32 := 1#32
  let v5052 : BitVec 32 := Scalar.muli v92 c1_i32_7035
  let v5053 : BitVec 32 := Scalar.addi c0_i32_7036 v5052
  v5053.toNat
def k0_dev232 (d0 : Dev nD) : Nat :=
  let c0_i32_7049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_7048 : BitVec 32 := 1#32
  let v5056 : BitVec 32 := Scalar.muli v62 c1_i32_7048
  let v5057 : BitVec 32 := Scalar.addi c0_i32_7049 v5056
  v5057.toNat
def k0_dev233 (d0 : Dev nD) : Nat :=
  let c0_i32_7093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_7092 : BitVec 32 := 1#32
  let v5090 : BitVec 32 := Scalar.muli v62 c1_i32_7092
  let v5091 : BitVec 32 := Scalar.addi c0_i32_7093 v5090
  v5091.toNat
def k0_dev234 (d0 : Dev nD) : Nat :=
  let c0_i32_7106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_7105 : BitVec 32 := 1#32
  let v5094 : BitVec 32 := Scalar.muli v92 c1_i32_7105
  let v5095 : BitVec 32 := Scalar.addi c0_i32_7106 v5094
  v5095.toNat
def k0_dev235 (d0 : Dev nD) : Nat :=
  let c0_i32_7151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_7150 : BitVec 32 := 1#32
  let v5129 : BitVec 32 := Scalar.muli v92 c1_i32_7150
  let v5130 : BitVec 32 := Scalar.addi c0_i32_7151 v5129
  v5130.toNat
def k0_dev236 (d0 : Dev nD) : Nat :=
  let c0_i32_7164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_7163 : BitVec 32 := 1#32
  let v5133 : BitVec 32 := Scalar.muli v62 c1_i32_7163
  let v5134 : BitVec 32 := Scalar.addi c0_i32_7164 v5133
  v5134.toNat
def k0_dev237 (d0 : Dev nD) : Nat :=
  let c0_i32_7208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_7207 : BitVec 32 := 1#32
  let v5167 : BitVec 32 := Scalar.muli v62 c1_i32_7207
  let v5168 : BitVec 32 := Scalar.addi c0_i32_7208 v5167
  v5168.toNat
def k0_dev238 (d0 : Dev nD) : Nat :=
  let c0_i32_7221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_7220 : BitVec 32 := 1#32
  let v5171 : BitVec 32 := Scalar.muli v92 c1_i32_7220
  let v5172 : BitVec 32 := Scalar.addi c0_i32_7221 v5171
  v5172.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Steps.lean ====
/-
The kernel's body as a short program.

The printed body lists every statement of thirty hops over four pipes. Here the same program is written once per kind
of step — a chunk of the product, a hop of one pipe, the start of a transfer — over the step's indices, and
`cc0_body_eq` says that the printed body is that program, by definitional unfolding.
-/
module

public import proofs.«01_k».proof.Proof.Gen.KernelIdeal
public import Idealize.ShloMosaic.Lib.Pipeline.Regions

@[expose] public section

noncomputable section

namespace Cert.RingProof

open Cert.KernelIdeal Cert.KernelIdeal.Gen
open Idealize.ShloMosaic Idealize.SL.Sem
open Idealize.ShloMosaic.TcCoe

variable {F : FTy → Type} [FloatOps F]

local notation "𝔼" => TpuEff nD τ sig (Elt F) Λ₀ Proc.tc

/-! ## Neighbours, slots, semaphores -/

/-- The left neighbour on the ring. -/
def lft (c : Dev nD) : Dev nD := ⟨k0_dev1 c, k0_dev1_lt c⟩
/-- The right neighbour on the ring. -/
def rgt (c : Dev nD) : Dev nD := ⟨k0_dev2 c, k0_dev2_lt c⟩
/-- The neighbour pipe `i` sends to: pipes 0 and 2 go right, 1 and 3 left. -/
def dst : Fin 4 → Dev nD → Dev nD
  | 0, c => rgt c | 1, c => lft c | 2, c => rgt c | 3, c => lft c
/-- The neighbour pipe `i` receives from. -/
def src : Fin 4 → Dev nD → Dev nD
  | 0, c => lft c | 1, c => rgt c | 2, c => lft c | 3, c => rgt c

/-- A slot lies in the communication buffer. -/
theorem slot_inb : ∀ (i : Fin 4) (s : Fin 2) (a : Fin 4), (![i.val, s.val, 0, 0] : Fin 4 → Nat) a + S1x1x128x512.size a ≤ S4x2x128x512.size a := by decide
/-- A slot's semaphore lies in its array. -/
theorem sem_inb : ∀ (i : Fin 4) (s : Fin 2) (a : Fin 2), (![i.val, s.val] : Fin 2 → Nat) a + S1x1.size a ≤ S4x2.size a := by decide
/-- A pipe's ready semaphore lies in its array. -/
theorem rdy_inb : ∀ (i : Fin 4) (a : Fin 1), (![i.val] : Fin 1 → Nat) a + S1.size a ≤ S4.size a := by decide

/-- Slot `(i, s)` of the communication buffer as a rectangle of it. -/
abbrev slotR (i : Fin 4) (s : Fin 2) : Rect S4x2x128x512 := Rect.unit (s := S4x2x128x512) ![i.val, s.val, 0, 0] S1x1x128x512.size (slot_inb i s)
/-- Slot `(i, s)` as a buffer of 128 rows and 512 columns. -/
abbrev slotM (a3 : Memref sig .tc .vmem S4x2x128x512 .f32) (i : Fin 4) (s : Fin 2) : Memref sig .tc .vmem S128x512 .f32 :=
  (a3.slice (slotR i s) (fun _ => rfl)).squeeze S128x512 squeezes_S1x1x128x512_S128x512
/-- Semaphore `(i, s)` of an array of four pairs of DMA semaphores. -/
abbrev semAt (a : DmaSems sig S4x2) (i : Fin 4) (s : Fin 2) : DmaSem sig :=
  ((a.slice (Rect.unit (s := S4x2) ![i.val, s.val] S1x1.size (sem_inb i s))).squeeze S_ squeezes_S1x1_S_).sem
/-- Ready semaphore `i`. -/
abbrev rdyAt (a : Sems sig S4) (i : Fin 4) : Sem sig :=
  ((a.slice (Rect.unit (s := S4) ![i.val] S1.size (rdy_inb i))).squeeze S_ squeezes_S1_S_).sem

/-- The runtime's barrier semaphore. -/
abbrev barS : Sem sig := (SemArray.scalar (sig.barrier 0 rfl) : Sems sig S_).sem

/-! ## Offsets -/

/-- Where hop `w` of pipe `i` reads the result: the rows of its chunk, the columns of its pipe. -/
def hopOff : Fin 4 → Dev nD → BitVec 32 → Fin 2 → Nat
  | 0, c, w => k0_off11 c w | 1, c, w => k0_off12 c w | 2, c, w => k0_off13 c w | 3, c, w => k0_off14 c w
/-- A hop reads inside the result. -/
theorem hopOff_inb : ∀ (i : Fin 4) (c : Dev nD) (h : Fin 30) (a : Fin 2),
    hopOff i c (BitVec.ofNat 32 h.val) a + S128x512.size a ≤ S2048x2048.size a
  | 0, c, h, a => k0_off11_inb c h a | 1, c, h, a => k0_off12_inb c h a
  | 2, c, h, a => k0_off13_inb c h a | 3, c, h, a => k0_off14_inb c h a
/-- Where pipe `i` reads the chunk it sends first. -/
def firstOff : Fin 4 → Dev nD → Fin 2 → Nat
  | 0, c => k0_off3 c | 1, c => k0_off4 c | 2, c => k0_off5 c | 3, c => k0_off6 c
/-- The first send reads inside the result. -/
theorem firstOff_inb : ∀ (i : Fin 4) (c : Dev nD) (a : Fin 2), firstOff i c a + S128x512.size a ≤ S2048x2048.size a
  | 0, c, a => k0_off3_inb c a | 1, c, a => k0_off4_inb c a | 2, c, a => k0_off5_inb c a | 3, c, a => k0_off6_inb c a

/-! ## The values the steps compute -/

/-- A chunk of the device's product: 128 rows of its block of `x` times its block of `w`. -/
def prod (x : Vec F S128x128 .f32) (w : Vec F S128x2048 .f32) : FVec F S128x2048 .f32 :=
  matmul dot_S128x128_S128x2048_S128x2048_1_0_0_1_n_n none (shapeCast S128x128 x shapeCasts_S128x128_S128x128)
    (shapeCast S128x2048 w shapeCasts_S128x2048_S128x2048) (constant S128x2048 .f32 0x00000000#32)
/-- A slot's contents as 128 rows and 512 columns. -/
def flat (v : Vec F S1x1x128x512 .f32) : FVec F S128x512 .f32 := shapeCast S128x512 v shapeCasts_S1x1x128x512_S128x512
/-- 128 rows and 512 columns as a slot's contents. -/
def slotted (v : FVec F S128x512 .f32) : FVec F S1x1x128x512 .f32 := shapeCast S1x1x128x512 v shapeCasts_S128x512_S1x1x128x512
/-- A slot's contents plus the device's own share of the chunk. -/
def plus (v : Vec F S1x1x128x512 .f32) (o : Vec F S128x512 .f32) : FVec F S128x512 .f32 :=
  addf (flat v) (shapeCast S128x512 o shapeCasts_S128x512_S128x512)
/-- `y / (1 + exp (0 - min 60 (max (-60) y)))`, pointwise. -/
def act (y : FVec F S128x512 .f32) : FVec F S128x512 .f32 :=
  divf y (addf (broadcast S128x512 (Scalar.ofBits .f32 0x3F800000#32)) (exp (subf (broadcast S128x512 (Scalar.ofBits .f32 0x00000000#32))
    (minimumf (broadcast S128x512 (Scalar.ofBits .f32 0x42700000#32)) (maximumf (broadcast S128x512 (Scalar.ofBits .f32 0xC2700000#32)) y)))))

/-! ## The steps -/

section Steps

variable (a0 : Memref sig .tc .vmem S2048x128 .f32) (a1 : Memref sig .tc .vmem S128x2048 .f32) (a2 : Memref sig .tc .vmem S2048x2048 .f32)
  (a3 : Memref sig .tc .vmem S4x2x128x512 .f32) (a4 a5 : DmaSems sig S4x2) (a6 : Sems sig S4)

/-- A chunk of the product computed into the result. -/
def chunk (ox : Fin 2 → Nat) (hx : ∀ a, ox a + S128x128.size a ≤ S2048x128.size a)
    (oo : Fin 2 → Nat) (ho : ∀ a, oo a + S128x2048.size a ≤ S2048x2048.size a) : Prog 𝔼 PUnit := do
  let x : Vec F S128x128 .f32 ← Prog.lift (.load a0 (Rect.unit (s := S2048x128) ox S128x128.size hx).toLoadRect (View.loadsAt_vmem h_S128x128))
  let w : Vec F S128x2048 .f32 ← Prog.lift (.load a1 (Rect.unit (s := S128x2048) ![0, 0] S128x2048.size inb_S128x2048_S128x2048_0_0).toLoadRect (View.loadsAt_vmem h_S128x2048))
  let _o : Vec F S128x2048 .f32 ← Prog.lift (.load a2 (Rect.unit (s := S2048x2048) oo S128x2048.size ho).toLoadRect (View.loadsAt_vmem h_S128x2048))
  Prog.lift (.store a2 (Rect.unit (s := S2048x2048) oo S128x2048.size ho) (prod x w) Finset.univ (View.stores_vmem_bits_univ h_S128x2048 rfl) (.inl rfl))

/-- The slot written, after a read whose value is not used. -/
def putSlot (i : Fin 4) (s : Fin 2) (v : FVec F S128x512 .f32) : Prog 𝔼 PUnit := do
  let _c : Vec F S1x1x128x512 .f32 ← Prog.lift (.load a3 (slotR i s).toLoadRect (View.loadsAt_vmem h_S1x1x128x512))
  Prog.lift (.store a3 (slotR i s) (slotted v) Finset.univ (View.stores_vmem_bits_univ h_S1x1x128x512 rfl) (.inl rfl))

/-- 128 rows and 512 columns of the result written, after a read whose value is not used. -/
def putOut (o : Fin 2 → Nat) (ho : ∀ a, o a + S128x512.size a ≤ S2048x2048.size a) (v : FVec F S128x512 .f32) : Prog 𝔼 PUnit := do
  let _o : Vec F S128x512 .f32 ← Prog.lift (.load a2 (Rect.unit (s := S2048x2048) o S128x512.size ho).toLoadRect (View.loadsAt_vmem h_S128x512))
  Prog.lift (.store a2 (Rect.unit (s := S2048x2048) o S128x512.size ho) v Finset.univ (View.stores_vmem_bits_univ h_S128x512 rfl) (.inl rfl))

/-- The device's own chunk copied into slot 0 of pipe `i`. -/
def first (c : Dev nD) (i : Fin 4) : Prog 𝔼 PUnit := do
  let o : Vec F S128x512 .f32 ← Prog.lift (.load a2 (Rect.unit (s := S2048x2048) (firstOff i c) S128x512.size (firstOff_inb i c)).toLoadRect (View.loadsAt_vmem h_S128x512))
  putSlot a3 i 0 (shapeCast S128x512 o shapeCasts_S128x512_S128x512)

/-- The transfer of pipe `i` started out of slot `s` into slot `s'` of the neighbour. -/
def send (c : Dev nD) (i : Fin 4) (s s' : Fin 2) : Prog 𝔼 PUnit :=
  Prog.lift (.enqueueDma (slotM a3 i s) (.remote (Dev.tc (dst i c)) (slotM a3 i s') (.dma (semAt a4 i s))) (.dma (semAt a5 i s'))
    ((View.wordExact_bits rfl).reshape _ _) ((View.wordExact_bits rfl).reshape _ _) ⟨⟨rfl, Or.inl rfl⟩, trivial⟩)

/-- Pipe `i`'s waits at a hop out of slot `s` into slot `s'`: its own transfer has left, the neighbour's has landed. -/
def arrive (i : Fin 4) (s s' : Fin 2) : Prog 𝔼 PUnit := do
  Prog.lift (.waitDma2 (semAt a4 i s) (slotM a3 i s') (slotM a3 i s) ((View.wordExact_bits rfl).reshape _ _) ((View.wordExact_bits rfl).reshape _ _))
  Prog.lift (.waitDma2 (semAt a5 i s') (slotM a3 i s) (slotM a3 i s') ((View.wordExact_bits rfl).reshape _ _) ((View.wordExact_bits rfl).reshape _ _))

/-- What a hop does with the chunk that has landed: below 14 it adds the device's share, at 14 it adds the last share
    and applies the activation, above it stores the finished chunk. -/
def work (c : Dev nD) (i : Fin 4) (h : Fin 30) (s' : Fin 2) : Prog 𝔼 PUnit := do
  let v : Vec F S1x1x128x512 .f32 ← Prog.lift (.load a3 (slotR i s').toLoadRect (View.loadsAt_vmem h_S1x1x128x512))
  if 14 < h.val then putOut a2 (hopOff i c (BitVec.ofNat 32 h.val)) (hopOff_inb i c h) (flat v)
  else do
    let o : Vec F S128x512 .f32 ← Prog.lift (.load a2 (Rect.unit (s := S2048x2048) (hopOff i c (BitVec.ofNat 32 h.val)) S128x512.size (hopOff_inb i c h)).toLoadRect (View.loadsAt_vmem h_S128x512))
    if h.val < 14 then putSlot a3 i s' (plus v o)
    else do
      putOut a2 (hopOff i c (BitVec.ofNat 32 h.val)) (hopOff_inb i c h) (act (plus v o))
      putSlot a3 i s' (act (plus v o))

/-- The hop's slot `s'` passed on: the neighbour behind is told that slot `s` here is free, the neighbour ahead has
    said so of its own, and the next transfer starts. -/
def pass (c : Dev nD) (i : Fin 4) (s s' : Fin 2) : Prog 𝔼 PUnit := do
  semSignalWord (src i c) (rdyAt a6 i) 1#32
  semWaitWord (rdyAt a6 i) 1#32
  send a3 a4 a5 c i s' s

/-- The slot a hop's transfer leaves from. -/
def par (h : Nat) : Fin 2 := ⟨h % 2, Nat.mod_lt _ (by decide)⟩

/-- Hop `h` of pipe `i`. -/
def hop (c : Dev nD) (h : Fin 30) (i : Fin 4) : Prog 𝔼 PUnit := do
  arrive a3 a4 a5 i (par h.val) (par (h.val + 1))
  work a2 a3 c i h (par (h.val + 1))
  if h.val < 29 then pass a3 a4 a5 a6 c i (par h.val) (par (h.val + 1)) else pure ⟨⟩

/-- The chunk `j` ahead of the device's own, computed. -/
def up (c : Dev nD) (r : Fin 8) : Prog 𝔼 PUnit :=
  chunk a0 a1 a2 (k0_off7 c (BitVec.ofNat 32 (1 + r.val))) (k0_off7_inb c r) (k0_off8 c (BitVec.ofNat 32 (1 + r.val))) (k0_off8_inb c r)
/-- The chunk `j` behind the device's own, computed. -/
def down (c : Dev nD) (r : Fin 7) : Prog 𝔼 PUnit :=
  chunk a0 a1 a2 (k0_off9 c (BitVec.ofNat 32 (1 + r.val))) (k0_off9_inb c r) (k0_off10 c (BitVec.ofNat 32 (1 + r.val))) (k0_off10_inb c r)

/-- The chunks computed before hop `h`, while its transfers are under way. -/
def ahead (c : Dev nD) (h : Nat) : Prog 𝔼 PUnit := do
  if hu : h + 1 < 8 then up a0 a1 a2 c ⟨h + 1, hu⟩ else pure ⟨⟩
  if hd : h + 1 < 7 then down a0 a1 a2 c ⟨h + 1, hd⟩ else pure ⟨⟩

/-- Hop `h` of the four pipes. -/
def round (c : Dev nD) (h : Fin 30) : Prog 𝔼 PUnit := do
  ahead a0 a1 a2 c h.val
  hop a2 a3 a4 a5 a6 c h 0
  hop a2 a3 a4 a5 a6 c h 1
  hop a2 a3 a4 a5 a6 c h 2
  hop a2 a3 a4 a5 a6 c h 3

/-- The last `n` of the thirty rounds. -/
def rounds (c : Dev nD) : (n : Nat) → n ≤ 30 → Prog 𝔼 PUnit
  | 0, _ => pure ⟨⟩
  | n + 1, hn => do
    round a0 a1 a2 a3 a4 a5 a6 c ⟨29 - n, Nat.lt_of_le_of_lt (Nat.sub_le _ _) (by decide)⟩
    rounds c n (Nat.le_of_succ_le hn)

/-- The runtime's barrier: both neighbours signalled, both waited for. -/
def meet (c : Dev nD) : Prog 𝔼 PUnit := do
  semSignalWord (lft c) barS 1#32
  semSignalWord (rgt c) barS 1#32
  semWaitWord barS 2#32

/-- The body on device `c`. -/
def bodyOn (c : Dev nD) : Prog 𝔼 PUnit := do
  meet c
  chunk a0 a1 a2 (k0_off1 c) (k0_off1_inb c) (k0_off2 c) (k0_off2_inb c)
  first a2 a3 c 0
  first a2 a3 c 1
  first a2 a3 c 2
  first a2 a3 c 3
  send a3 a4 a5 c 0 0 1
  send a3 a4 a5 c 1 0 1
  send a3 a4 a5 c 2 0 1
  send a3 a4 a5 c 3 0 1
  up a0 a1 a2 c 0
  down a0 a1 a2 c 0
  rounds a0 a1 a2 a3 a4 a5 a6 c 30 (Nat.le_refl _)

end Steps

/-- The printed body is the short program, run on the device it finds itself on. -/
theorem cc0_body_eq (a0 : Memref sig .tc .vmem S2048x128 .f32) (h0 : a0.IsWhole) (a1 : Memref sig .tc .vmem S128x2048 .f32) (h1 : a1.IsWhole)
    (a2 : Memref sig .tc .vmem S2048x2048 .f32) (h2 : a2.IsWhole) (a3 : Memref sig .tc .vmem S4x2x128x512 .f32) (h3 : a3.IsWhole)
    (a4 a5 : DmaSems sig S4x2) (a6 : Sems sig S4) :
    cc0_body (F := F) a0 h0 a1 h1 a2 h2 a3 h3 a4 a5 a6 = (Prog.lift .deviceId >>= fun c => bodyOn a0 a1 a2 a3 a4 a5 a6 c) := by
  chain_rfl

end Cert.RingProof

end
-- ==== Proof.Ring.lean ====
/-
The ring and what travels on it.

Where each device stands on the ring, which chunk of the result each hop handles, and what the chunk in flight holds
after each hop, as plain functions of the devices' operands. Then the result buffer: it is sixteen rows of blocks by
four columns, `InvB` says what each block holds part-way through the run, and what each write does to that.
-/
module

public import proofs.«01_k».proof.Proof.Steps
public import Idealize.ShloMosaic.Lib.Memref

@[expose] public section

noncomputable section

namespace Cert.RingProof

open Cert.KernelIdeal Cert.KernelIdeal.Gen
open Idealize.ShloMosaic Idealize.SL.Sem
open Idealize.ShloMosaic.TcCoe

variable {F : FTy → Type} [FloatOps F]

/-! ## Places on the ring -/

/-- A device's place on the ring. -/
def pos : Dev nD → Fin 16 := ![0, 15, 8, 7, 1, 14, 9, 6, 2, 13, 10, 5, 3, 12, 11, 4]

/-- Whether a pipe goes right. -/
def right : Fin 4 → Bool := ![true, false, true, false]

/-- The quarter of the columns a pipe carries. -/
def col : Fin 4 → Fin 4 := ![0, 2, 1, 3]

/-- Taking the quarter twice gives the pipe back. -/
theorem col_col : ∀ i, col (col i) = i := by decide
/-- Two pipes carry different quarters. -/
theorem col_inj {i j : Fin 4} (h : col i = col j) : i = j := by rw [← col_col i, h, col_col]

/-- The chunk device `c` receives on pipe `i` at hop `h`. -/
def at_ (i : Fin 4) (c : Dev nD) (h : ℕ) : Fin 16 :=
  if right i then ⟨((pos c).val + (31 - h)) % 16, Nat.mod_lt _ (by decide)⟩ else ⟨((pos c).val + (1 + h)) % 16, Nat.mod_lt _ (by decide)⟩

/-- The left neighbour is one place back. -/
theorem pos_lft : ∀ c, (pos (lft c)).val = ((pos c).val + 15) % 16 := by decide +kernel
/-- The right neighbour is one place on. -/
theorem pos_rgt : ∀ c, (pos (rgt c)).val = ((pos c).val + 1) % 16 := by decide +kernel
/-- The left neighbour's right neighbour is the device. -/
theorem rgt_lft : ∀ c, rgt (lft c) = c := by decide +kernel
/-- The right neighbour's left neighbour is the device. -/
theorem lft_rgt : ∀ c, lft (rgt c) = c := by decide +kernel
/-- A device is the source of its destination, -/
theorem src_dst : ∀ i c, src i (dst i c) = c := by decide +kernel
/-- and the destination of its source. -/
theorem dst_src : ∀ i c, dst i (src i c) = c := by decide +kernel
/-- Two devices have different places. -/
theorem pos_inj : ∀ c d, pos c = pos d → c = d := by decide +kernel

/-- The chunk received at a hop is the one the neighbour behind received at the hop before. -/
theorem at_succ (i : Fin 4) (c : Dev nD) (h : ℕ) (hh : h + 1 ≤ 31) : at_ i c (h + 1) = at_ i (src i c) h := by
  have hl := pos_lft c
  have hr := pos_rgt c
  have key : ∀ i : Fin 4, (right i = true ∧ src i c = lft c) ∨ (right i = false ∧ src i c = rgt c) := by
    intro i; fin_cases i
    · exact .inl ⟨rfl, rfl⟩
    · exact .inr ⟨rfl, rfl⟩
    · exact .inl ⟨rfl, rfl⟩
    · exact .inr ⟨rfl, rfl⟩
  have hp : (pos c).val < 16 := (pos c).isLt
  unfold at_
  rcases key i with ⟨h1, h2⟩ | ⟨h1, h2⟩ <;> rw [h1, h2] <;> simp only [if_true, Bool.false_eq_true, if_false] <;> apply Fin.ext
  · show ((pos c).val + (31 - (h + 1))) % 16 = ((pos (lft c)).val + (31 - h)) % 16
    omega
  · show ((pos c).val + (1 + (h + 1))) % 16 = ((pos (rgt c)).val + (1 + h)) % 16
    omega

/-- At hop 0 the neighbour's own chunk is received. -/
theorem at_zero : ∀ i c, at_ i c 0 = pos (src i c) := by decide +kernel

/-- Sixteen hops in a row receive sixteen chunks. -/
theorem at_inj (i : Fin 4) (c : Dev nD) (h h' : ℕ) (h1 : 14 ≤ h) (h2 : h < 30) (h3 : 14 ≤ h') (h4 : h' < 30) (he : at_ i c h = at_ i c h') : h = h' := by
  have hp : (pos c).val < 16 := (pos c).isLt
  unfold at_ at he
  split at he
  · have := congrArg Fin.val he
    change ((pos c).val + (31 - h)) % 16 = ((pos c).val + (31 - h')) % 16 at this
    omega
  · have := congrArg Fin.val he
    change ((pos c).val + (1 + h)) % 16 = ((pos c).val + (1 + h')) % 16 at this
    omega

/-- The hop, of the last sixteen, at which device `c` receives chunk `j` on pipe `i`. -/
def hopOf (i : Fin 4) (c : Dev nD) (j : Fin 16) : ℕ :=
  if right i then 14 + ((pos c).val + 17 + 16 - j.val) % 16 else 14 + (j.val + 17 + 16 - (pos c).val) % 16

/-- It is one of the last sixteen, and receives that chunk. -/
theorem hopOf_spec (i : Fin 4) (c : Dev nD) (j : Fin 16) : 14 ≤ hopOf i c j ∧ hopOf i c j < 30 ∧ at_ i c (hopOf i c j) = j := by
  have hp : (pos c).val < 16 := (pos c).isLt
  have hj : j.val < 16 := j.isLt
  unfold hopOf at_
  split
  · refine ⟨by omega, by omega, Fin.ext ?_⟩
    show ((pos c).val + (31 - (14 + ((pos c).val + 17 + 16 - j.val) % 16))) % 16 = j.val
    omega
  · refine ⟨by omega, by omega, Fin.ext ?_⟩
    show ((pos c).val + (1 + (14 + (j.val + 17 + 16 - (pos c).val) % 16))) % 16 = j.val
    omega

/-- How far chunk `j` is ahead of the device's own. -/
def fwd (c : Dev nD) (j : Fin 16) : ℕ := (j.val + 16 - (pos c).val) % 16

/-- The chunks computed when those up to `n` ahead and up to `n` behind are. -/
def comp (c : Dev nD) (n : ℕ) (j : Fin 16) : Prop := fwd c j ≤ n ∨ 16 - fwd c j ≤ n

/-- At a hop that adds the device's share, its chunk has been computed. -/
theorem comp_at (i : Fin 4) (c : Dev nD) (h : ℕ) (hh : h ≤ 14) : comp c (h + 1) (at_ i c h) := by
  have hp : (pos c).val < 16 := (pos c).isLt
  unfold comp fwd at_
  split
  · right
    show 16 - (((pos c).val + (31 - h)) % 16 + 16 - (pos c).val) % 16 ≤ h + 1
    omega
  · left
    show (((pos c).val + (1 + h)) % 16 + 16 - (pos c).val) % 16 ≤ h + 1
    omega

/-- The chunk `n` ahead of the device's own. -/
def plus_ (c : Dev nD) (n : ℕ) : Fin 16 := ⟨((pos c).val + n) % 16, Nat.mod_lt _ (by decide)⟩

/-- What the pair of chunks computed ahead of a round adds. -/
theorem comp_succ (c : Dev nD) (h : ℕ) (j : Fin 16) (hj : comp c (h + 2) j) :
    comp c (h + 1) j ∨ (h + 1 < 8 ∧ j = plus_ c (h + 2)) ∨ (h + 1 < 7 ∧ j = plus_ c (16 - (h + 2))) := by
  have hp : (pos c).val < 16 := (pos c).isLt
  have hj' : j.val < 16 := j.isLt
  unfold comp fwd at *
  by_cases h8 : h + 1 < 8
  · rcases hj with hj | hj
    · by_cases hj2 : (j.val + 16 - (pos c).val) % 16 ≤ h + 1
      · exact .inl (.inl hj2)
      · right; left; refine ⟨h8, Fin.ext ?_⟩
        show j.val = ((pos c).val + (h + 2)) % 16
        omega
    · by_cases hj2 : 16 - (j.val + 16 - (pos c).val) % 16 ≤ h + 1
      · exact .inl (.inr hj2)
      · by_cases h7 : h + 1 < 7
        · right; right; refine ⟨h7, Fin.ext ?_⟩
          show j.val = ((pos c).val + (16 - (h + 2))) % 16
          omega
        · right; left; refine ⟨h8, Fin.ext ?_⟩
          show j.val = ((pos c).val + (h + 2)) % 16
          omega
  · left; omega

/-- To begin with only the device's own chunk is computed. -/
theorem comp_zero (c : Dev nD) (j : Fin 16) (hj : comp c 0 j) : j = pos c := by
  have hp : (pos c).val < 16 := (pos c).isLt
  have hj' : j.val < 16 := j.isLt
  unfold comp fwd at hj
  exact Fin.ext (by omega)

/-- Before the first round its two neighbouring chunks are, too. -/
theorem comp_one (c : Dev nD) (j : Fin 16) (hj : comp c 1 j) : j = pos c ∨ j = plus_ c 1 ∨ j = plus_ c 15 := by
  have hp : (pos c).val < 16 := (pos c).isLt
  have hj' : j.val < 16 := j.isLt
  unfold comp fwd at hj
  by_cases h1 : j.val = (pos c).val
  · exact .inl (Fin.ext h1)
  · right
    rcases hj with hj | hj
    · left; apply Fin.ext; show j.val = ((pos c).val + 1) % 16; omega
    · right; apply Fin.ext; show j.val = ((pos c).val + 15) % 16; omega

/-! ## Offsets in closed form -/

/-- Where a hop reads the result: its chunk, its columns. -/
theorem hopOff_eq : ∀ (i : Fin 4) (c : Dev nD) (h : Fin 30), hopOff i c (BitVec.ofNat 32 h.val) = ![128 * (at_ i c h.val).val, 512 * (col i).val] := by decide +kernel
/-- Where the first send reads: the own chunk, the columns of the pipe. -/
theorem firstOff_eq : ∀ (i : Fin 4) (c : Dev nD), firstOff i c = ![128 * (pos c).val, 512 * (col i).val] := by decide +kernel
/-- The operand rows of the own chunk. -/
theorem off1_eq : ∀ c : Dev nD, k0_off1 c = ![128 * (pos c).val, 0] := by decide +kernel
/-- The result rows of the own chunk. -/
theorem off2_eq : ∀ c : Dev nD, k0_off2 c = ![128 * (pos c).val, 0] := by decide +kernel
/-- The operand rows of the chunks computed ahead. -/
theorem off7_eq : ∀ (c : Dev nD) (r : Fin 8), k0_off7 c (BitVec.ofNat 32 (1 + r.val)) = ![128 * (plus_ c (1 + r.val)).val, 0] := by decide +kernel
/-- The result rows of the chunks computed ahead. -/
theorem off8_eq : ∀ (c : Dev nD) (r : Fin 8), k0_off8 c (BitVec.ofNat 32 (1 + r.val)) = ![128 * (plus_ c (1 + r.val)).val, 0] := by decide +kernel
/-- The operand rows of the chunks computed behind. -/
theorem off9_eq : ∀ (c : Dev nD) (r : Fin 7), k0_off9 c (BitVec.ofNat 32 (1 + r.val)) = ![128 * (plus_ c (16 - (1 + r.val))).val, 0] := by decide +kernel
/-- The result rows of the chunks computed behind. -/
theorem off10_eq : ∀ (c : Dev nD) (r : Fin 7), k0_off10 c (BitVec.ofNat 32 (1 + r.val)) = ![128 * (plus_ c (16 - (1 + r.val))).val, 0] := by decide +kernel

/-! ## Blocks of the buffers -/

/-- A chunk's rows lie in the operand. -/
theorem xRow_inb : ∀ (j : Fin 16) (a : Fin 2), (![128 * j.val, 0] : Fin 2 → Nat) a + S128x128.size a ≤ S2048x128.size a := by decide +kernel
/-- A chunk's rows lie in the result. -/
theorem oRow_inb : ∀ (j : Fin 16) (a : Fin 2), (![128 * j.val, 0] : Fin 2 → Nat) a + S128x2048.size a ≤ S2048x2048.size a := by decide +kernel
/-- A block lies in the result. -/
theorem oBlk_inb : ∀ (j : Fin 16) (i : Fin 4) (a : Fin 2), (![128 * j.val, 512 * (col i).val] : Fin 2 → Nat) a + S128x512.size a ≤ S2048x2048.size a := by decide +kernel

/-- The rows of chunk `j` of the operand. -/
abbrev xRow (j : Fin 16) : Rect S2048x128 := Rect.unit (s := S2048x128) ![128 * j.val, 0] S128x128.size (xRow_inb j)
/-- The rows of chunk `j` of the result. -/
abbrev oRow (j : Fin 16) : Rect S2048x2048 := Rect.unit (s := S2048x2048) ![128 * j.val, 0] S128x2048.size (oRow_inb j)
/-- Pipe `i`'s columns of chunk `j` of the result. -/
abbrev oBlk (j : Fin 16) (i : Fin 4) : Rect S2048x2048 := Rect.unit (s := S2048x2048) ![128 * j.val, 512 * (col i).val] S128x512.size (oBlk_inb j i)

/-- The device's block of `x` as staged. -/
abbrev xM : Memref sig .tc .vmem S2048x128 .f32 := Memref.whole cc0_stg0_0
/-- The device's block of `w` as staged. -/
abbrev wM : Memref sig .tc .vmem S128x2048 .f32 := Memref.whole cc0_stg1_0
/-- The result as staged. -/
abbrev oM : Memref sig .tc .vmem S2048x2048 .f32 := Memref.whole cc0_stg2_0
/-- The communication buffer. -/
abbrev cM : Memref sig .tc .vmem S4x2x128x512 .f32 := Memref.whole cc0_scratch0

/-- Block `(j, i)` of a result's contents. -/
def blk (j : Fin 16) (i : Fin 4) (g : Vec F S2048x2048 .f32) : FVec F S128x512 .f32 := fun y => g ((oBlk j i).emb y)

/-- A block, element by element. -/
theorem blk_apply (j : Fin 16) (i : Fin 4) (g : Vec F S2048x2048 .f32) (y : S128x512.Idx) : blk j i g y = g ((oBlk j i).emb y) := rfl

/-- A pipe's columns lie in a row of blocks. -/
theorem cols_lt (i : Fin 4) (y : S128x512.Idx) : 512 * (col i).val + (y 1).val < 2048 := by
  have h1 : (y 1).val < 512 := (y 1).isLt
  have h2 := (col i).isLt
  omega

/-- Where an index of pipe `i`'s columns lies in a row of blocks. -/
def colIdx (i : Fin 4) (y : S128x512.Idx) : S128x2048.Idx
  | 0 => y 0
  | 1 => ⟨512 * (col i).val + (y 1).val, cols_lt i y⟩

/-- Pipe `i`'s columns of a row of blocks. -/
def cols (i : Fin 4) (v : FVec F S128x2048 .f32) : FVec F S128x512 .f32 :=
  fun y => v (colIdx i y)

section Whole
variable {b : Ref sig .tc} (r : Rect b.ty.shape) (f : b.ty.Contents (Elt F)) (w : r.shape.Idx → Elt F b.ty.elt)

/-- A rectangle of a whole buffer written, read back inside the rectangle. -/
theorem whole_write_emb (x : r.shape.Idx) : ((View.whole b).slice r).write (Elt F) f w Finset.univ (r.emb x) = w x :=
  View.read_slice_write_emb (v := View.whole b) r f w (Finset.mem_univ x)

/-- A rectangle of a whole buffer written, read outside the rectangle. -/
theorem whole_write_off (y : b.ty.shape.Idx) (h : y ∉ r.set) : ((View.whole b).slice r).write (Elt F) f w Finset.univ y = f y :=
  View.read_slice_write_of_not_mem (v := View.whole b) r f w Finset.univ (y := y) (by rwa [Rect.map_emb_univ])

end Whole

/-- A result buffer with block `(j, i)` written. -/
def setBlk (j : Fin 16) (i : Fin 4) (g : Vec F S2048x2048 .f32) (v : FVec F S128x512 .f32) : Vec F S2048x2048 .f32 :=
  ((View.whole cc0_stg2_0).slice (oBlk j i)).write (Elt F) g v Finset.univ
/-- A result buffer with row of blocks `j` written. -/
def setRow (j : Fin 16) (g : Vec F S2048x2048 .f32) (v : FVec F S128x2048 .f32) : Vec F S2048x2048 .f32 :=
  ((View.whole cc0_stg2_0).slice (oRow j)).write (Elt F) g v Finset.univ

/-- A block written, read inside. -/
theorem setBlk_emb (j : Fin 16) (i : Fin 4) (g : Vec F S2048x2048 .f32) (v : FVec F S128x512 .f32) (y : S128x512.Idx) :
    setBlk j i g v ((oBlk j i).emb y) = v y := whole_write_emb (F := F) (b := cc0_stg2_0) (oBlk j i) g v y
/-- A block written, read outside. -/
theorem setBlk_off (j : Fin 16) (i : Fin 4) (g : Vec F S2048x2048 .f32) (v : FVec F S128x512 .f32) (x : S2048x2048.Idx)
    (h : x ∉ (oBlk j i).set) : setBlk j i g v x = g x := whole_write_off (F := F) (b := cc0_stg2_0) (oBlk j i) g v x h
/-- A row of blocks written, read inside. -/
theorem setRow_emb (j : Fin 16) (g : Vec F S2048x2048 .f32) (v : FVec F S128x2048 .f32) (y : S128x2048.Idx) :
    setRow j g v ((oRow j).emb y) = v y := whole_write_emb (F := F) (b := cc0_stg2_0) (oRow j) g v y
/-- A row of blocks written, read outside. -/
theorem setRow_off (j : Fin 16) (g : Vec F S2048x2048 .f32) (v : FVec F S128x2048 .f32) (x : S2048x2048.Idx)
    (h : x ∉ (oRow j).set) : setRow j g v x = g x := whole_write_off (F := F) (b := cc0_stg2_0) (oRow j) g v x h

/-- Writing a block changes that block alone. -/
theorem blk_setBlk (j j' : Fin 16) (i i' : Fin 4) (g : Vec F S2048x2048 .f32) (v : FVec F S128x512 .f32) :
    blk j' i' (setBlk j i g v) = if j' = j ∧ i' = i then v else blk j' i' g := by
  by_cases h : j' = j ∧ i' = i
  · obtain ⟨rfl, rfl⟩ := h
    rw [if_pos ⟨rfl, rfl⟩]
    funext y
    rw [blk_apply]
    exact setBlk_emb j' i' g v y
  · rw [if_neg h]
    funext y
    rw [blk_apply]
    refine setBlk_off j i g v ((oBlk j' i').emb y) ?_
    intro hm
    rw [Rect.mem_set_unit] at hm
    have h0 := hm 0
    have h1 := hm 1
    change 128 * j.val ≤ 128 * j'.val + 1 * (y 0).val ∧ 128 * j'.val + 1 * (y 0).val < 128 * j.val + 128 at h0
    change 512 * (col i).val ≤ 512 * (col i').val + 1 * (y 1).val ∧ 512 * (col i').val + 1 * (y 1).val < 512 * (col i).val + 512 at h1
    have y0 : (y 0).val < 128 := (y 0).isLt
    have y1 : (y 1).val < 512 := (y 1).isLt
    exact h ⟨Fin.ext (by omega), col_inj (Fin.ext (by omega))⟩

/-- Writing a row of blocks changes its four blocks. -/
theorem blk_setRow (j j' : Fin 16) (i' : Fin 4) (g : Vec F S2048x2048 .f32) (v : FVec F S128x2048 .f32) :
    blk j' i' (setRow j g v) = if j' = j then cols i' v else blk j' i' g := by
  by_cases h : j' = j
  · subst h
    rw [if_pos rfl]
    funext y
    have hy : (oBlk j' i').emb y = (oRow j').emb (colIdx i' y) := by
      funext a
      refine Fin.cases ?_ (fun b => ?_) a
      · exact Fin.ext rfl
      · obtain rfl : b = 0 := Subsingleton.elim _ _
        apply Fin.ext
        show 512 * (col i').val + 1 * (y 1).val = 0 + 1 * (512 * (col i').val + (y 1).val)
        omega
    rw [blk_apply, hy]
    exact setRow_emb j' g v _
  · rw [if_neg h]
    funext y
    rw [blk_apply]
    refine setRow_off j g v ((oBlk j' i').emb y) ?_
    intro hm
    rw [Rect.mem_set_unit] at hm
    have h0 := hm 0
    change 128 * j.val ≤ 128 * j'.val + 1 * (y 0).val ∧ 128 * j'.val + 1 * (y 0).val < 128 * j.val + 128 at h0
    have y0 : (y 0).val < 128 := (y 0).isLt
    exact h (Fin.ext (by omega))

/-! ## What travels -/

variable (X : Dev nD → Vec F S2048x128 .f32) (W : Dev nD → Vec F S128x2048 .f32)

/-- Chunk `j` of device `c`'s product. -/
def row (c : Dev nD) (j : Fin 16) : FVec F S128x2048 .f32 :=
  prod (fun y => X c ((xRow j).emb y)) (W c)

/-- Device `c`'s share of block `(j, i)`. -/
def share (c : Dev nD) (j : Fin 16) (i : Fin 4) : FVec F S128x512 .f32 := cols i (row X W c j)

/-- What device `c` sends on pipe `i` at hop `n`: its own share first; then what it received at the hop before, with its
    own share added, with the activation applied after the last share, and unchanged after that. -/
def val (i : Fin 4) : ℕ → Dev nD → FVec F S128x512 .f32
  | 0, c => share X W c (pos c) i
  | h + 1, c =>
    if 14 < h then val i h (src i c)
    else if h < 14 then addf (val i h (src i c)) (share X W c (at_ i c h) i)
    else act (addf (val i h (src i c)) (share X W c (at_ i c h) i))

/-- The contents of the result part-way: every computed chunk that is not finished holds the device's own share, and the
    blocks stored at the steps before `k` (hop `h`, pipe `i` is step `4 * h + i`) hold what was stored. -/
structure InvB (c : Dev nD) (n k : ℕ) (g : Vec F S2048x2048 .f32) : Prop where
  own : ∀ j i, comp c n j → (∀ h, 14 ≤ h → h < 30 → 4 * h + i.val < k → at_ i c h ≠ j) → blk j i g = share X W c j i
  fin : ∀ i h, 14 ≤ h → h < 30 → 4 * h + i.val < k → blk (at_ i c h) i g = val X W i (h + 1) c

/-- At the start the device's own chunk has been computed. -/
theorem InvB.first (c : Dev nD) (g : Vec F S2048x2048 .f32) : InvB X W c 0 0 (setRow (pos c) g (row X W c (pos c))) where
  own j i hj _ := by
    obtain rfl := comp_zero c j hj
    rw [blk_setRow, if_pos rfl]; rfl
  fin i h _ _ hk := absurd hk (Nat.not_lt_zero _)

/-- The contents of the result while the chunks of `S` are computed and nothing is finished. -/
def Own (c : Dev nD) (S : Fin 16 → Prop) (g : Vec F S2048x2048 .f32) : Prop := ∀ j i, S j → blk j i g = share X W c j i

/-- One more chunk computed. -/
theorem Own.set {c : Dev nD} {S : Fin 16 → Prop} {g : Vec F S2048x2048 .f32} (hg : Own X W c S g) (j' : Fin 16) :
    Own X W c (fun j => S j ∨ j = j') (setRow j' g (row X W c j')) := by
  intro j i hj
  rw [blk_setRow]
  by_cases h : j = j'
  · subst h; rw [if_pos rfl]; rfl
  · rw [if_neg h]
    exact hg j i (hj.resolve_right h)

/-- Fewer chunks asked for. -/
theorem Own.mono {c : Dev nD} {S S' : Fin 16 → Prop} {g : Vec F S2048x2048 .f32} (hg : Own X W c S g) (h : ∀ j, S' j → S j) : Own X W c S' g :=
  fun j i hj => hg j i (h j hj)

/-- Before anything is finished only the computed chunks count, -/
theorem InvB.toOwn {c : Dev nD} {n k : ℕ} {g : Vec F S2048x2048 .f32} (hk : k ≤ 56) (hg : InvB X W c n k g) : Own X W c (comp c n) g :=
  fun j i hj => hg.own j i hj fun h' h1 _ h2 => by omega

/-- and they are enough. -/
theorem Own.toInv {c : Dev nD} {n k : ℕ} {g : Vec F S2048x2048 .f32} (hk : k ≤ 56) (hg : Own X W c (comp c n) g) : InvB X W c n k g where
  own j i hj _ := hg j i hj
  fin i h h1 _ h2 := by omega

/-- A step is one hop of one pipe. -/
theorem step_inj {h h' i i' : ℕ} (h1 : i < 4) (h2 : i' < 4) (he : 4 * h + i = 4 * h' + i') : h = h' ∧ i = i' := by omega

/-- The block a hop adds to the chunk that has landed. -/
theorem InvB.read {c : Dev nD} {h : ℕ} {i : Fin 4} {g : Vec F S2048x2048 .f32} (hh : h ≤ 14) (hg : InvB X W c (h + 2) (4 * h + i.val) g) :
    blk (at_ i c h) i g = share X W c (at_ i c h) i := by
  refine hg.own _ i ?_ ?_
  · rcases comp_at i c h hh with h' | h'
    · exact .inl (Nat.le_succ_of_le h')
    · exact .inr (Nat.le_succ_of_le h')
  · intro h' h1 _ h2
    have := i.isLt
    omega

/-- A hop that stores nothing. -/
theorem InvB.skip {c : Dev nD} {h n : ℕ} {i : Fin 4} {g : Vec F S2048x2048 .f32} (hh : h < 14) (hg : InvB X W c n (4 * h + i.val) g) :
    InvB X W c n (4 * h + i.val + 1) g where
  own j i' hj hd := hg.own j i' hj fun h' h1 h3 h2 => hd h' h1 h3 (by omega)
  fin i' h' h1 h3 h2 := by have := i.isLt; omega

/-- A hop that stores its block. -/
theorem InvB.put {c : Dev nD} {h n : ℕ} {i : Fin 4} {g : Vec F S2048x2048 .f32} (hh : 14 ≤ h) (hh' : h < 30) (hg : InvB X W c n (4 * h + i.val) g) :
    InvB X W c n (4 * h + i.val + 1) (setBlk (at_ i c h) i g (val X W i (h + 1) c)) where
  own j i' hj hd := by
    rw [blk_setBlk, if_neg]
    · exact hg.own j i' hj fun h' h1 h3 h2 => hd h' h1 h3 (by omega)
    · rintro ⟨rfl, rfl⟩
      exact hd h hh hh' (by omega) rfl
  fin i' h' h1 h3 h2 := by
    rw [blk_setBlk]
    by_cases he : at_ i' c h' = at_ i c h ∧ i' = i
    · rw [if_pos he]
      obtain ⟨he, rfl⟩ := he
      rw [at_inj i' c h' h h1 h3 hh hh' he]
    · rw [if_neg he]
      refine hg.fin i' h' h1 h3 ?_
      by_contra hc
      obtain ⟨rfl, hi⟩ := step_inj i'.isLt i.isLt (show 4 * h' + i'.val = 4 * h + i.val by omega)
      exact he ⟨by rw [Fin.ext hi], Fin.ext hi⟩

/-! ## The finished result -/

/-- There are sixteen rows of blocks. -/
theorem q_lt (x : S2048x2048.Idx) : (x 0).val / 128 < 16 := by have : (x 0).val < 2048 := (x 0).isLt; omega
/-- There are four columns of blocks. -/
theorem s_lt (x : S2048x2048.Idx) : (x 1).val / 512 < 4 := by have : (x 1).val < 2048 := (x 1).isLt; omega
/-- The row of blocks an element lies in. -/
def rowOf (x : S2048x2048.Idx) : Fin 16 := ⟨(x 0).val / 128, q_lt x⟩
/-- The pipe whose columns an element lies in. -/
def pipeOf (x : S2048x2048.Idx) : Fin 4 := col ⟨(x 1).val / 512, s_lt x⟩
/-- Where in its block an element lies. -/
def inBlk (x : S2048x2048.Idx) : S128x512.Idx
  | 0 => ⟨(x 0).val % 128, Nat.mod_lt _ (by decide)⟩
  | 1 => ⟨(x 1).val % 512, Nat.mod_lt _ (by decide)⟩

/-- An element is where its block and its place there say. -/
theorem emb_inBlk (x : S2048x2048.Idx) : (oBlk (rowOf x) (pipeOf x)).emb (inBlk x) = x := by
  funext a
  refine Fin.cases ?_ (fun b => ?_) a
  · apply Fin.ext
    show 128 * ((x 0).val / 128) + 1 * ((x 0).val % 128) = (x 0).val
    omega
  · obtain rfl : b = 0 := Subsingleton.elim _ _
    apply Fin.ext
    show 512 * (col (col ⟨(x 1).val / 512, s_lt x⟩)).val + 1 * ((x 1).val % 512) = (x 1).val
    rw [col_col]
    show 512 * ((x 1).val / 512) + 1 * ((x 1).val % 512) = (x 1).val
    omega

/-- The result device `c` ends with. -/
def outF (c : Dev nD) : Vec F S2048x2048 .f32 := fun x => val X W (pipeOf x) (hopOf (pipeOf x) c (rowOf x) + 1) c (inBlk x)

/-- After the last step the result is finished. -/
theorem InvB.final {c : Dev nD} {n : ℕ} {g : Vec F S2048x2048 .f32} (hg : InvB X W c n 120 g) : g = outF X W c := by
  funext x
  obtain ⟨h1, h2, h3⟩ := hopOf_spec (pipeOf x) c (rowOf x)
  have := hg.fin (pipeOf x) (hopOf (pipeOf x) c (rowOf x)) h1 h2 (by have := (pipeOf x).isLt; omega)
  rw [h3] at this
  have h4 := congrFun this (inBlk x)
  unfold blk at h4
  rw [emb_inBlk] at h4
  exact h4

end Cert.RingProof

end
-- ==== Proof.Protocol.lean ====
/-
Who signals whom, and what each signal hands over.

Every device has a barrier semaphore and, per pipe, a ready semaphore and two send and two receive semaphores. The
schedule says what each round of each of them is raised by and what comes with it; the tallies say what a device owes
others at each point of its run and when, and that every wait is for something due earlier than all that is owed.
-/
module

public import proofs.«01_k».proof.Proof.Ring
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the rounds. -/
abbrev UB : Type := URounds (GSem nD τ sig) Bool
/-- The pipeline's ghost state beside the rounds'. -/
abbrev UU : Type := UR sig nD τ × UB

local notation "𝕄" => MT nD τ sig ℕ (Elt F) ℕ UU ℕ

/-- Where the pipeline's ghost state lies. -/
abbrev EP : Emb (UR sig nD τ) (MT nD τ sig ℕ (Elt F) ℕ UU ℕ) := embL
/-- Where the rounds' ghost state lies. -/
abbrev ER : Emb UB (MT nD τ sig ℕ (Elt F) ℕ UU ℕ) := embR

/-- No loop of the body needs a variant. -/
abbrev 𝒱₀ : Variants := Variants.none

/-! ## The cells -/

/-- A pipe's semaphores on one device. -/
inductive Role
  | rdy | snd (s : Fin 2) | rcv (s : Fin 2)
  deriving DecidableEq

instance : Fintype Role := ⟨{.rdy, .snd 0, .snd 1, .rcv 0, .rcv 1}, fun r => by
  rcases r with _ | s | s <;> first | decide | (revert s; decide)⟩

/-- A device's semaphores: the barrier, and each pipe's. -/
abbrev CK : Type := Option (Fin 4 × Role)

/-- Each pipe's semaphores. -/
def osem : Fin 4 × Role → SemLoc sig
  | (i, .rdy) => .reg (rdyAt cc0_scratch3 i)
  | (i, .snd s) => .dma (semAt cc0_scratch1 i s)
  | (i, .rcv s) => .dma (semAt cc0_scratch2 i s)
/-- Each of a device's semaphores. -/
def csem : CK → SemLoc sig
  | none => .reg barS
  | some k => osem k

/-- A device's semaphores are distinct. -/
theorem csem_inj : Function.Injective csem := by
  have h : ∀ a b, csem a = csem b → a = b := by decide +kernel
  exact fun a b => h a b

/-- Which of a device's semaphores one is. -/
def kindOf (sm : SemLoc sig) : Option CK := if h : ∃ k, csem k = sm then some h.choose else none
/-- Each is found again. -/
theorem kindOf_csem (k : CK) : kindOf (csem k) = some k := by
  unfold kindOf
  have h : ∃ k', csem k' = csem k := ⟨k, rfl⟩
  rw [dif_pos h, csem_inj h.choose_spec]

/-- A semaphore of device `c`. -/
abbrev cellAt (c : Dev nD) (k : CK) : GSem nD τ sig := ((c : Thread nD τ), csem k)
/-- Device `c`'s barrier. -/
abbrev barC (c : Dev nD) : GSem nD τ sig := ((c : Thread nD τ), .reg barS)
/-- Pipe `i`'s ready semaphore on device `c`. -/
abbrev rdyC (c : Dev nD) (i : Fin 4) : GSem nD τ sig := ((c : Thread nD τ), .reg (rdyAt cc0_scratch3 i))
/-- Pipe `i`'s send semaphore for slot `s` on device `c`. -/
abbrev sndC (c : Dev nD) (i : Fin 4) (s : Fin 2) : GSem nD τ sig := ((c : Thread nD τ), .dma (semAt cc0_scratch1 i s))
/-- Pipe `i`'s receive semaphore for slot `s` on device `c`. -/
abbrev rcvC (c : Dev nD) (i : Fin 4) (s : Fin 2) : GSem nD τ sig := ((c : Thread nD τ), .dma (semAt cc0_scratch2 i s))

/-- What a transfer of a slot credits. -/
def N : ℕ := (slotM cM 0 0).view.dmaCredit
/-- It is not nothing. -/
theorem N_pos : 0 < N := View.dmaCredit_pos _ (by decide)
/-- It is the same for every slot. -/
theorem N_eq (i : Fin 4) (s : Fin 2) : (slotM cM i s).view.dmaCredit = N := rfl

/-! ## Slots -/

/-- Slot `(i, s)` of device `c`, at the buffer's contents `f`. -/
def slotPts (c : Dev nD) (i : Fin 4) (s : Fin 2) (f : Buf (Elt F) ((slotM cM i s).view.loc (c : Thread nD τ))) : sProp 𝕄 :=
  (slotM cM i s).view.loc (c : Thread nD τ) ↦[(slotM cM i s).view.set]{fullShare} f
/-- The slot holding `v`. -/
def slot (c : Dev nD) (i : Fin 4) (s : Fin 2) (v : FVec F S128x512 .f32) : sProp 𝕄 :=
  iprop(∃ f, ⌜(slotM cM i s).view.read (Elt F) f = v⌝ ∗ slotPts c i s f)
/-- The slot, whatever it holds. -/
def slotAny (c : Dev nD) (i : Fin 4) (s : Fin 2) : sProp 𝕄 := iprop(∃ f, slotPts (F := F) c i s f)

omit [FloatOps F] in
instance slotPts_storable (c : Dev nD) (i : Fin 4) (s : Fin 2) (f) : BI.Storable (upEmb : UEmb _ 𝕄) (slotPts (F := F) c i s f) := by
  unfold slotPts; infer_instance
omit [FloatOps F] in
instance slot_storable (c : Dev nD) (i : Fin 4) (s : Fin 2) (v) : BI.Storable (upEmb : UEmb _ 𝕄) (slot (F := F) c i s v) := by
  unfold slot; infer_instance
omit [FloatOps F] in
instance slotAny_storable (c : Dev nD) (i : Fin 4) (s : Fin 2) : BI.Storable (upEmb : UEmb _ 𝕄) (slotAny (F := F) c i s) := by
  unfold slotAny; infer_instance

/-! ## The schedule -/

variable (X : Dev nD → Vec F S2048x128 .f32) (W : Dev nD → Vec F S128x2048 .f32)

/-- What the right (`true`) or the left neighbour's barrier signal hands device `c`: the slots it first sends into. -/
def barPay (c : Dev nD) : Bool → sProp 𝕄
  | true => iprop(slotAny (rgt c) 0 1 ∗ slotAny (rgt c) 2 1)
  | false => iprop(slotAny (lft c) 1 1 ∗ slotAny (lft c) 3 1)
/-- What round `r` of a ready semaphore hands over: the slot hop `r + 1` is sent into. -/
def rdyPay (c : Dev nD) (i : Fin 4) (r : ℕ) : sProp 𝕄 :=
  iprop(slotAny (dst i c) i (par r) ∗ reached ER (rcvC (dst i c) i (par r)) ((r + 1) / 2))
/-- What a finished send hands back: its slot. -/
def sndPay (c : Dev nD) (i : Fin 4) (s : Fin 2) : sProp 𝕄 := slotAny c i s
/-- What hop `h`'s arrival in slot `s` hands over: the slot, holding what the neighbour sent, and word that the
    neighbour's ready semaphore has come to round `h`. -/
def rcvPay (c : Dev nD) (i : Fin 4) (s : Fin 2) (h : ℕ) : sProp 𝕄 :=
  iprop(slot c i s (val X W i h (src i c)) ∗ reached ER (rdyC (src i c) i) h)

/-- The duties of round `r` of a semaphore. -/
def dutiesK : CK → ℕ → Finset Bool
  | none, r => if r = 0 then {false, true} else ∅
  | some (_, .rdy), r => if r < 29 then {false} else ∅
  | some (_, .snd _), r => if r < 15 then {false} else ∅
  | some (_, .rcv _), r => if r < 15 then {false} else ∅
/-- What one duty of a semaphore raises it by. -/
def amountK : CK → ℕ
  | none => 1
  | some (_, .rdy) => 1
  | some (_, .snd _) => N
  | some (_, .rcv _) => N
/-- What one duty of a semaphore hands over. -/
def payloadK (c : Dev nD) : CK → ℕ → Bool → sProp 𝕄
  | none, _, d => barPay c d
  | some (i, .rdy), r, _ => rdyPay c i r
  | some (i, .snd s), _, _ => sndPay c i s
  | some (i, .rcv s), r, _ => rcvPay X W c i s (2 * r + (1 - s.val))

/-- Every duty raises its semaphore. -/
theorem amountK_pos (k : CK) : 0 < amountK k := by
  rcases k with _ | ⟨i, _ | s | s⟩
  · exact Nat.one_pos
  · exact Nat.one_pos
  · exact N_pos
  · exact N_pos

/-- The rounds of every cell. -/
def ringRd : Rounds.Schedule (GSem nD τ sig) Bool 𝕄 where
  duties g r := if g.1.2 = .tc then (match kindOf g.2 with | some k => dutiesK k r | none => ∅) else ∅
  unitless _ := False
  amount g _ _ := match kindOf g.2 with | some k => amountK k | none => 1
  payload g r d := match kindOf g.2 with | some k => payloadK X W g.1.1 k r d | none => iprop(emp)
  amount_pos g _ _ _ := by
    show 0 < (match kindOf g.2 with | some k => amountK k | none => 1)
    cases kindOf g.2 with
    | none => exact Nat.one_pos
    | some k => exact amountK_pos k

instance payloadK_storable (c : Dev nD) (k : CK) (r : ℕ) (d : Bool) : BI.Storable (upEmb : UEmb _ 𝕄) (payloadK X W c k r d) := by
  rcases k with _ | ⟨i, _ | s | s⟩
  · cases d
    · show BI.Storable upEmb iprop(_ ∗ _); infer_instance
    · show BI.Storable upEmb iprop(_ ∗ _); infer_instance
  · show BI.Storable upEmb iprop(_ ∗ _); infer_instance
  · exact slotAny_storable c i s
  · show BI.Storable upEmb iprop(_ ∗ _); infer_instance

instance ringRd_payload_storable (g : GSem nD τ sig) (r : ℕ) (d : Bool) : BI.Storable (upEmb : UEmb _ 𝕄) ((ringRd X W).payload g r d) := by
  show BI.Storable upEmb (match kindOf g.2 with | some k => payloadK X W g.1.1 k r d | none => iprop(emp))
  cases kindOf g.2 with
  | none => show BI.Storable upEmb iprop(emp); infer_instance
  | some k => exact payloadK_storable X W g.1.1 k r d

section Sched
variable (c : Dev nD)

/-- The duties of a round, by the semaphore. -/
theorem duties_at (k : CK) (r : ℕ) : (ringRd X W).duties (cellAt c k) r = dutiesK k r := by
  show (if (cellAt c k).1.2 = .tc then (match kindOf (csem k) with | some k => dutiesK k r | none => ∅) else ∅) = _
  rw [if_pos rfl, kindOf_csem]
/-- What a duty raises it by, by the semaphore. -/
theorem amount_at (k : CK) (r : ℕ) (d : Bool) : (ringRd X W).amount (cellAt c k) r d = amountK k := by
  show (match kindOf (csem k) with | some k => amountK k | none => 1) = _
  rw [kindOf_csem]
/-- What a duty hands over, by the semaphore. -/
theorem payload_at (k : CK) (r : ℕ) (d : Bool) : (ringRd X W).payload (cellAt c k) r d = payloadK X W c k r d := by
  show (match kindOf (csem k) with | some k => payloadK X W c k r d | none => iprop(emp)) = _
  rw [kindOf_csem]

/-- A round of a ready semaphore is one duty. -/
theorem duties_rdy (i : Fin 4) (r : ℕ) (h : r < 29) : (ringRd X W).duties (rdyC c i) r = {false} :=
  (duties_at X W c (some (i, .rdy)) r).trans (if_pos h)
/-- A round of a send semaphore is one duty. -/
theorem duties_snd (i : Fin 4) (s : Fin 2) (r : ℕ) (h : r < 15) : (ringRd X W).duties (sndC c i s) r = {false} :=
  (duties_at X W c (some (i, .snd s)) r).trans (if_pos h)
/-- A round of a receive semaphore is one duty. -/
theorem duties_rcv (i : Fin 4) (s : Fin 2) (r : ℕ) (h : r < 15) : (ringRd X W).duties (rcvC c i s) r = {false} :=
  (duties_at X W c (some (i, .rcv s)) r).trans (if_pos h)
/-- The barrier's round is two duties, one of each neighbour. -/
theorem duties_bar : (ringRd X W).duties (barC c) 0 = {false, true} :=
  (duties_at X W c none 0).trans rfl

/-- A ready signal is one unit. -/
theorem amount_rdy (i : Fin 4) (r : ℕ) (d : Bool) : (ringRd X W).amount (rdyC c i) r d = 1 := amount_at X W c (some (i, .rdy)) r d
/-- A finished send is its transfer's units. -/
theorem amount_snd (i : Fin 4) (s : Fin 2) (r : ℕ) (d : Bool) : (ringRd X W).amount (sndC c i s) r d = N := amount_at X W c (some (i, .snd s)) r d
/-- An arrival is its transfer's units. -/
theorem amount_rcv (i : Fin 4) (s : Fin 2) (r : ℕ) (d : Bool) : (ringRd X W).amount (rcvC c i s) r d = N := amount_at X W c (some (i, .rcv s)) r d
/-- A barrier signal is one unit. -/
theorem amount_bar (r : ℕ) (d : Bool) : (ringRd X W).amount (barC c) r d = 1 := amount_at X W c none r d

/-- What a ready signal hands over. -/
theorem payload_rdy (i : Fin 4) (r : ℕ) (d : Bool) : (ringRd X W).payload (rdyC c i) r d = rdyPay c i r := payload_at X W c (some (i, .rdy)) r d
/-- What a finished send hands over. -/
theorem payload_snd (i : Fin 4) (s : Fin 2) (r : ℕ) (d : Bool) : (ringRd X W).payload (sndC c i s) r d = sndPay c i s := payload_at X W c (some (i, .snd s)) r d
/-- What an arrival hands over. -/
theorem payload_rcv (i : Fin 4) (s : Fin 2) (r : ℕ) (d : Bool) :
    (ringRd X W).payload (rcvC c i s) r d = rcvPay X W c i s (2 * r + (1 - s.val)) := payload_at X W c (some (i, .rcv s)) r d
/-- What a barrier signal hands over. -/
theorem payload_bar (r : ℕ) (d : Bool) : (ringRd X W).payload (barC c) r d = barPay c d := payload_at X W c none r d

/-- A wait on a ready semaphore takes its whole round. -/
theorem expect_rdy (i : Fin 4) (r : ℕ) (h : r < 29) : (ringRd X W).expect (rdyC c i) r = 1 := by
  unfold Schedule.expect Schedule.amountOf; rw [duties_rdy X W c i r h, Finset.sum_singleton, amount_rdy]
/-- A wait on a send semaphore takes its whole round. -/
theorem expect_snd (i : Fin 4) (s : Fin 2) (r : ℕ) (h : r < 15) : (ringRd X W).expect (sndC c i s) r = N := by
  unfold Schedule.expect Schedule.amountOf; rw [duties_snd X W c i s r h, Finset.sum_singleton, amount_snd]
/-- A wait on a receive semaphore takes its whole round. -/
theorem expect_rcv (i : Fin 4) (s : Fin 2) (r : ℕ) (h : r < 15) : (ringRd X W).expect (rcvC c i s) r = N := by
  unfold Schedule.expect Schedule.amountOf; rw [duties_rcv X W c i s r h, Finset.sum_singleton, amount_rcv]
/-- The wait at the barrier takes its whole round. -/
theorem expect_bar : (ringRd X W).expect (barC c) 0 = 2 := by
  unfold Schedule.expect Schedule.amountOf
  rw [duties_bar, Finset.sum_insert (by decide), Finset.sum_singleton, amount_bar, amount_bar]

/-- What a wait on a ready semaphore obtains. -/
theorem rest_rdy (i : Fin 4) (r : ℕ) (h : r < 29) :
    bigSep ((ringRd X W).duties (rdyC c i) r \ ∅) (fun d => (ringRd X W).payload (rdyC c i) r d) = rdyPay c i r := by
  rw [Finset.sdiff_empty, duties_rdy X W c i r h, bigSep_singleton, payload_rdy]
/-- What a wait on a send semaphore obtains. -/
theorem rest_snd (i : Fin 4) (s : Fin 2) (r : ℕ) (h : r < 15) :
    bigSep ((ringRd X W).duties (sndC c i s) r \ ∅) (fun d => (ringRd X W).payload (sndC c i s) r d) = slotAny c i s := by
  rw [Finset.sdiff_empty, duties_snd X W c i s r h, bigSep_singleton, payload_snd, sndPay]
/-- What a wait on a receive semaphore obtains. -/
theorem rest_rcv (i : Fin 4) (s : Fin 2) (r : ℕ) (h : r < 15) :
    bigSep ((ringRd X W).duties (rcvC c i s) r \ ∅) (fun d => (ringRd X W).payload (rcvC c i s) r d) = rcvPay X W c i s (2 * r + (1 - s.val)) := by
  rw [Finset.sdiff_empty, duties_rcv X W c i s r h, bigSep_singleton, payload_rcv]
/-- What the wait at the barrier obtains. -/
theorem rest_bar : bigSep ((ringRd X W).duties (barC c) 0 \ ∅) (fun d => (ringRd X W).payload (barC c) 0 d)
    = iprop(barPay c false ∗ barPay c true) := by
  rw [Finset.sdiff_empty, duties_bar, bigSep_insert (by decide), bigSep_singleton, payload_bar, payload_bar]
  rfl

/-- After its last round a semaphore has no more duties. -/
theorem duties_end (k : CK) (R : ℕ) (h : match k with | none => 1 ≤ R | some (_, .rdy) => 29 ≤ R | some (_, .snd _) => 15 ≤ R | some (_, .rcv _) => 15 ≤ R) :
    ∀ r, R ≤ r → (ringRd X W).duties (cellAt c k) r = ∅ := by
  intro r hr
  rw [duties_at]
  rcases k with _ | ⟨i, _ | s | s⟩
  · exact if_neg (by have : 1 ≤ R := h; omega)
  · exact if_neg (by have : 29 ≤ R := h; omega)
  · exact if_neg (by have : 15 ≤ R := h; omega)
  · exact if_neg (by have : 15 ≤ R := h; omega)

end Sched

/-! ## What is owed, and when -/

/-- Every cell of a TensorCore may be owed at any of the stamps the run uses. -/
def L (g : GSem nD τ sig) : Finset ℕ := if g.1.2 = .tc then Finset.range 1000 else ∅
/-- A stamp is its own level. -/
def lv (_ : GSem nD τ sig) (ι : ℕ) : ℕ := ι
/-- Nothing is owed to another processor. -/
theorem L_of_ne (g : GSem nD τ sig) (h : g.1.2 ≠ .tc) : L g = ∅ := if_neg h
/-- Every stamp the run uses is allowed. -/
theorem mem_L (c : Dev nD) (sm : SemLoc sig) (ι : ℕ) (h : ι < 1000) : ι ∈ L ((c : Thread nD τ), sm) := by
  unfold L; rw [if_pos rfl]; exact Finset.mem_range.mpr h

/-- Everything owed is owed to TensorCores, later than `b`. -/
def Above (b : ℕ) (O : CellTallies nD τ sig ℕ) : Prop := ∀ g ι, 0 < O g ι → g.1.2 = .tc ∧ b < ι ∧ ι < 1000

/-- Owing nothing. -/
theorem Above.zero (b : ℕ) : Above b 0 := fun g ι h => absurd h (Nat.lt_irrefl 0)
/-- Owing two things. -/
theorem Above.add {b : ℕ} {O O' : CellTallies nD τ sig ℕ} (h : Above b O) (h' : Above b O') : Above b (O + O') := fun g ι hp => by
  rw [Pi.add_apply, Finsupp.add_apply] at hp
  rcases Nat.eq_zero_or_pos (O g ι) with h0 | h0
  · exact h' g ι (by omega)
  · exact h g ι h0
/-- Owing one thing. -/
theorem Above.tally {b : ℕ} (c : Dev nD) (sm : SemLoc sig) (ι n : ℕ) (h : b < ι) (h' : ι < 1000) : Above b (tallyAt ((c : Thread nD τ), sm) ι n) := fun g ι' hp => by
  rw [tallyAt_apply] at hp
  by_cases hg : g = ((c : Thread nD τ), sm) ∧ ι' = ι
  · obtain ⟨rfl, rfl⟩ := hg; exact ⟨rfl, h, h'⟩
  · rw [if_neg hg] at hp; exact absurd hp (Nat.lt_irrefl 0)
/-- Owing several things. -/
theorem Above.sum {b : ℕ} {α : Type} (s : Finset α) (T : α → CellTallies nD τ sig ℕ) (h : ∀ a ∈ s, Above b (T a)) : Above b (∑ a ∈ s, T a) := by
  classical
  induction s using Finset.induction_on with
  | empty => rw [Finset.sum_empty]; exact Above.zero b
  | insert a s ha ih =>
    rw [Finset.sum_insert ha]
    exact (h a (Finset.mem_insert_self a s)).add (ih fun a' h' => h a' (Finset.mem_insert_of_mem h'))

omit [FloatOps F] in
/-- A device may wait for what is due before everything it owes. -/
theorem mayWait (c : Dev nD) (sm : SemLoc sig) (ι : ℕ) (O : CellTallies nD τ sig ℕ) (hι : ι < 1000) (hO : Above ι O) :
    (levAts L lv : sProp 𝕄) ⊢ MayWait (c : Thread nD τ) sm ι O :=
  MayOwe.of_cut (L := L) (lev := lv) ι (fun p hp => by rw [Finset.mem_singleton.mp hp]; exact mem_L c sm ι hι)
    (fun g u hg => by obtain ⟨h1, -, h3⟩ := hO g u hg; unfold L; rw [if_pos h1]; exact Finset.mem_range.mpr h3)
    (fun p hp => by rw [Finset.mem_singleton.mp hp]; exact le_refl ι)
    (fun g u hg => (hO g u hg).2.1)

/-- The pipe of step `k`. -/
def pipe (k : ℕ) : Fin 4 := ⟨k % 4, Nat.mod_lt _ (by decide)⟩
/-- The pipe of hop `h` of pipe `i`. -/
theorem pipe_eq (h : ℕ) (i : Fin 4) : pipe (4 * h + i.val) = i := Fin.ext (by show (4 * h + i.val) % 4 = i.val; have := i.isLt; omega)
/-- The hop of hop `h` of pipe `i`. -/
theorem hop_eq (h : ℕ) (i : Fin 4) : (4 * h + i.val) / 4 = h := by have := i.isLt; omega

/-- The steps from `k` on are step `k` and those after it. -/
theorem steps_from (k : ℕ) (hk : k < 116) : Finset.Ico k 116 = insert k (Finset.Ico (k + 1) 116) := by
  ext j; rw [Finset.mem_insert, Finset.mem_Ico, Finset.mem_Ico]; omega

/-- The ready signal of step `k`. -/
def rdyT (c : Dev nD) (k : ℕ) : CellTallies nD τ sig ℕ := tallyAt (rdyC (src (pipe k) c) (pipe k)) (3 + 2 * k) 1
/-- The transfer started at step `k`. -/
def sndT (c : Dev nD) (k : ℕ) : CellTallies nD τ sig ℕ := tallyAt (rcvC (dst (pipe k) c) (pipe k) (par (k / 4))) (4 + 2 * k) N
/-- The transfer of pipe `i` started before the first round. -/
def snd0T (c : Dev nD) (i : Fin 4) : CellTallies nD τ sig ℕ := tallyAt (rcvC (dst i c) i 1) 2 N
/-- What is owed from step `k` on. -/
def owedFrom (c : Dev nD) (k : ℕ) : CellTallies nD τ sig ℕ := ∑ j ∈ Finset.Ico k 116, (rdyT c j + sndT c j)
/-- What is owed at the start. -/
def O₀ (c : Dev nD) : CellTallies nD τ sig ℕ :=
  ((owedFrom c 0 + (((snd0T c 3 + snd0T c 2) + snd0T c 1) + snd0T c 0)) + tallyAt (barC (rgt c)) 1 1) + tallyAt (barC (lft c)) 1 1

/-- A step pays its transfer and its signal. -/
theorem owedFrom_step (c : Dev nD) (k : ℕ) (hk : k < 116) : owedFrom c k = (owedFrom c (k + 1) + sndT c k) + rdyT c k := by
  unfold owedFrom
  rw [steps_from k hk, Finset.sum_insert (by rw [Finset.mem_Ico]; omega), add_comm (rdyT c k + sndT c k), add_comm (rdyT c k), ← add_assoc]
/-- After the last step nothing is owed. -/
theorem owedFrom_end (c : Dev nD) (k : ℕ) (hk : 116 ≤ k) : owedFrom c k = 0 := by
  unfold owedFrom; rw [Finset.Ico_eq_empty (by omega), Finset.sum_empty]

/-- What is owed from a step on is due after the step begins. -/
theorem above_owedFrom (c : Dev nD) (k b : ℕ) (hb : b < 3 + 2 * k) : Above b (owedFrom c k) :=
  Above.sum _ _ fun j hj => by
    obtain ⟨h1, h2⟩ := Finset.mem_Ico.mp hj
    exact (Above.tally _ _ _ _ (by omega) (by omega)).add (Above.tally _ _ _ _ (by omega) (by omega))
/-- The first transfers are due after the barrier. -/
theorem above_snd0 (c : Dev nD) (i : Fin 4) (b : ℕ) (hb : b < 2) : Above b (snd0T c i) := Above.tally _ _ _ _ hb (by decide)
/-- At the start nothing owed is due at once. -/
theorem above_O₀ (c : Dev nD) : Above 0 (O₀ c) :=
  (((above_owedFrom c 0 0 (by decide)).add ((((above_snd0 c 3 0 (by decide)).add (above_snd0 c 2 0 (by decide))).add (above_snd0 c 1 0 (by decide))).add
    (above_snd0 c 0 0 (by decide)))).add (Above.tally _ _ _ _ (by decide) (by decide))).add (Above.tally _ _ _ _ (by decide) (by decide))

end Cert.RingProof

end
-- ==== Proof.Run.lean ====
/-
One device's run, step by step.

Each step of the short program is given what it needs and what it leaves: the chunks of the product, the start of a
transfer, a hop's waits, its work and its passing-on, a hop, a round, and the thirty rounds.
-/
module

public import proofs.«01_k».proof.Proof.Protocol
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
local notation "𝔼" => TpuEff nD τ sig (Elt F) Λ₀ Proc.tc

variable (X : Dev nD → Vec F S2048x128 .f32) (W : Dev nD → Vec F S128x2048 .f32) (K : Dev nD × CK → ℕ) (c : Dev nD)

/-- What a program of device `c` needs to run to `Q`. -/
abbrev runs (p : Prog 𝔼 PUnit) (Q : PUnit → sProp 𝕄) : sProp 𝕄 := wp frame (wpE (defs₀ (F := F)) 𝒱₀ (c : Thread nD τ) none) Set.univ p Q

/-- One program after another. -/
theorem runs_bind (p : Prog 𝔼 PUnit) (k : PUnit → Prog 𝔼 PUnit) (Q : PUnit → sProp 𝕄) :
    runs c (p >>= k) Q = runs c p (fun a => runs c (k a) Q) := wp_bind _ _ _ p k Q

/-- A finished program. -/
theorem runs_ret (Q : PUnit → sProp 𝕄) : Q ⟨⟩ ⊢ runs c (Prog.ret ⟨⟩) Q := by
  iintro H; unfold runs; rw [wp_ret]; imodintro; iexact H

/-- Every cell's invariant, and that every cell is at round 0 or later. -/
def records : sProp 𝕄 :=
  iprop((bigSep Finset.univ fun p : Dev nD × CK => cellInv ER (ringRd X W) (K p) (cellAt p.1 p.2))
    ∗ (bigSep Finset.univ fun p : Dev nD × CK => reached ER (cellAt p.1 p.2) 0))
instance records_persistent : BI.Persistent (records X W K) := by unfold records; infer_instance

/-- One semaphore's invariant, out of all. -/
theorem records_inv (d : Dev nD) (k : CK) : records X W K ⊢ cellInv ER (ringRd X W) (K (d, k)) (cellAt d k) := by
  unfold records
  iintro ⟨H, -⟩
  iapply (show bigSep Finset.univ (fun p : Dev nD × CK => cellInv ER (ringRd X W) (K p) (cellAt p.1 p.2)) ⊢ _ from bigSep_elim (i := (d, k)) (Finset.mem_univ _)) $$ H
/-- One semaphore is at round 0 or later. -/
theorem records_reached (d : Dev nD) (k : CK) : records X W K ⊢ reached ER (cellAt d k) 0 := by
  unfold records
  iintro ⟨-, H⟩
  iapply (show bigSep Finset.univ (fun p : Dev nD × CK => reached ER (cellAt p.1 p.2) 0) ⊢ _ from bigSep_elim (i := (d, k)) (Finset.mem_univ _)) $$ H

/-- A ready semaphore's invariant. -/
theorem inv_rdy (d : Dev nD) (i : Fin 4) : records X W K ⊢ cellInv ER (ringRd X W) (K (d, some (i, .rdy))) (rdyC d i) := records_inv X W K d (some (i, .rdy))
/-- A send semaphore's invariant. -/
theorem inv_snd (d : Dev nD) (i : Fin 4) (s : Fin 2) : records X W K ⊢ cellInv ER (ringRd X W) (K (d, some (i, .snd s))) (sndC d i s) := records_inv X W K d (some (i, .snd s))
/-- A receive semaphore's invariant. -/
theorem inv_rcv (d : Dev nD) (i : Fin 4) (s : Fin 2) : records X W K ⊢ cellInv ER (ringRd X W) (K (d, some (i, .rcv s))) (rcvC d i s) := records_inv X W K d (some (i, .rcv s))
/-- A barrier's invariant. -/
theorem inv_bar (d : Dev nD) : records X W K ⊢ cellInv ER (ringRd X W) (K (d, none)) (barC d) := records_inv X W K d none
/-- A ready semaphore is at round 0 or later. -/
theorem zero_rdy (d : Dev nD) (i : Fin 4) : records X W K ⊢ reached ER (rdyC d i) 0 := records_reached X W K d (some (i, .rdy))
/-- A send semaphore is at round 0 or later. -/
theorem zero_snd (d : Dev nD) (i : Fin 4) (s : Fin 2) : records X W K ⊢ reached ER (sndC d i s) 0 := records_reached X W K d (some (i, .snd s))
/-- A receive semaphore is at round 0 or later. -/
theorem zero_rcv (d : Dev nD) (i : Fin 4) (s : Fin 2) : records X W K ⊢ reached ER (rcvC d i s) 0 := records_reached X W K d (some (i, .rcv s))
/-- A barrier is at round 0 or later. -/
theorem zero_bar (d : Dev nD) : records X W K ⊢ reached ER (barC d) 0 := records_reached X W K d none

/-! ## The result and the inputs in the device's memory -/

/-- The device's result buffer. -/
def outPts (g : Vec F S2048x2048 .f32) : sProp 𝕄 := ((c : Thread nD τ).loc cc0_stg2_0) ↦{fullShare} g
/-- The device's blocks of the two inputs. -/
def xwPts : sProp 𝕄 :=
  iprop((((c : Thread nD τ).loc cc0_stg0_0) ↦{fullShare} (X c)) ∗ (((c : Thread nD τ).loc cc0_stg1_0) ↦{fullShare} (W c)))

/-- A chunk of the operand read. -/
theorem read_x (j : Fin 16) (f : Vec F S2048x128 .f32) : xM.view.readAt (Elt F) (xRow j).toLoadRect f = fun y => f ((xRow j).emb y) := rfl
/-- The device's block of `w` read. -/
theorem read_w (f : Vec F S128x2048 .f32) : wM.view.readAt (Elt F) (Rect.unit (s := S128x2048) ![0, 0] S128x2048.size inb_S128x2048_S128x2048_0_0).toLoadRect f = f :=
  Memref.readAt_unit_zero (Elt F) cc0_stg1_0 (by decide) _ f
/-- A chunk of the product stored. -/
theorem write_row (j : Fin 16) (g : Vec F S2048x2048 .f32) (v : FVec F S128x2048 .f32) :
    (oM.access (oRow j)).write (Elt F) g v Finset.univ = setRow j g v := rfl

/-- A chunk of the product, computed. -/
theorem chunk_spec (j : Fin 16) (ox : Fin 2 → Nat) (hx) (oo : Fin 2 → Nat) (ho) (hox : ox = ![128 * j.val, 0]) (hoo : oo = ![128 * j.val, 0])
    (g : Vec F S2048x2048 .f32) (Q : PUnit → sProp 𝕄) :
    iprop(xwPts X W c ∗ outPts c g ∗ ((xwPts X W c ∗ outPts c (setRow j g (row X W c j))) -∗ Q ⟨⟩))
      ⊢ runs c (chunk xM wM oM ox hx oo ho) Q := by
  subst hox hoo
  unfold chunk xwPts outPts
  simp only [Prog.lift, Prog.bind_op, Prog.bind_ret, Prog.pure_eq_ret]
  iintro ⟨⟨Hx, Hw⟩, Ho, Hk⟩
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := oRow j) (Mk := Finset.univ) (Finset.subset_univ _)) $$ Ho; iintro Ho
  rw [wp_ret]; imodintro
  iapply Hk
  isplitl [Hx Hw]; · isplitl [Hx] <;> iassumption
  rw [write_row]
  iexact Ho

/-! ## Slots and blocks read and written -/

/-- A store into a slot stays in it. -/
theorem access_subset (i : Fin 4) (s : Fin 2) : (cM.access (slotR i s)).set ⊆ (slotM cM i s).view.set :=
  (View.set_reshape (cM.access (slotR i s)) _).ge
/-- A slot stored into, read back. -/
theorem slot_write (i : Fin 4) (s : Fin 2) (f) (v : FVec F S128x512 .f32) :
    (slotM cM i s).view.read (Elt F) ((cM.access (slotR i s)).write (Elt F) f (slotted v) Finset.univ) = v := by
  show flat ((cM.access (slotR i s)).read (Elt F) ((cM.access (slotR i s)).write (Elt F) f (slotted v) Finset.univ)) = v
  rw [View.read_write_univ]
  exact shapeCast_shapeCast v _ _
/-- A block of the result read. -/
theorem read_blk (j : Fin 16) (i : Fin 4) (g : Vec F S2048x2048 .f32) : oM.view.readAt (Elt F) (oBlk j i).toLoadRect g = blk j i g := rfl
/-- A block of the result stored. -/
theorem write_blk (j : Fin 16) (i : Fin 4) (g : Vec F S2048x2048 .f32) (v : FVec F S128x512 .f32) :
    (oM.access (oBlk j i)).write (Elt F) g v Finset.univ = setBlk j i g v := rfl

/-- A slot read and kept. -/
theorem slot_load (i : Fin 4) (s : Fin 2) (v : FVec F S128x512 .f32) (k : Vec F S1x1x128x512 .f32 → Prog 𝔼 PUnit) (hl) (Q : PUnit → sProp 𝕄) :
    iprop(slot c i s v ∗ (∀ x, ⌜flat x = v⌝ -∗ slot c i s v -∗ runs c (k x) Q))
      ⊢ runs c (.op (.load cM (slotR i s).toLoadRect hl) k) Q := by
  unfold slot slotPts
  iintro ⟨⟨%f, %hf, Hs⟩, Hk⟩
  iapply (wp_load_rect 𝒱₀ (c : Thread nD τ) none Set.univ (m := cM) (r := slotR i s) (access_subset i s)) $$ Hs; iintro Hs
  iapply Hk
  · ipureintro; exact hf
  iexists f
  isplitr; · ipureintro; exact hf
  iexact Hs

/-- A slot written. -/
theorem putSlot_spec (i : Fin 4) (s : Fin 2) (v : FVec F S128x512 .f32) (Q : PUnit → sProp 𝕄) :
    iprop(slotAny c i s ∗ (slot c i s v -∗ Q ⟨⟩)) ⊢ runs c (putSlot cM i s v) Q := by
  unfold putSlot slot slotAny slotPts
  simp only [Prog.lift, Prog.bind_op, Prog.bind_ret, Prog.pure_eq_ret]
  iintro ⟨⟨%f, Hs⟩, Hk⟩
  iapply (wp_load_rect 𝒱₀ (c : Thread nD τ) none Set.univ (m := cM) (r := slotR i s) (access_subset i s)) $$ Hs; iintro Hs
  iapply (wp_store 𝒱₀ (c : Thread nD τ) none Set.univ (m := cM) (r := slotR i s) (Mk := Finset.univ) (access_subset i s)) $$ Hs; iintro Hs
  rw [wp_ret]; imodintro
  iapply Hk
  iexists ((cM.access (slotR i s)).write (Elt F) f (slotted v) Finset.univ)
  isplitr; · ipureintro; exact slot_write i s f v
  iexact Hs

/-- A slot's contents may be forgotten. -/
theorem slot_any (i : Fin 4) (s : Fin 2) (v : FVec F S128x512 .f32) : slot c i s v ⊢ slotAny c i s := by
  unfold slot slotAny
  iintro ⟨%f, -, H⟩; iexists f; iexact H

/-- A block of the result written. -/
theorem putOut_spec (j : Fin 16) (i : Fin 4) (o : Fin 2 → Nat) (ho) (hoo : o = ![128 * j.val, 512 * (col i).val])
    (g : Vec F S2048x2048 .f32) (v : FVec F S128x512 .f32) (Q : PUnit → sProp 𝕄) :
    iprop(outPts c g ∗ (outPts c (setBlk j i g v) -∗ Q ⟨⟩)) ⊢ runs c (putOut oM o ho v) Q := by
  subst hoo
  unfold putOut outPts
  simp only [Prog.lift, Prog.bind_op, Prog.bind_ret, Prog.pure_eq_ret]
  iintro ⟨Ho, Hk⟩
  iapply (wp_load 𝒱₀ (c : Thread nD τ) none Set.univ (m := oM) (Finset.subset_univ _)) $$ Ho; iintro Ho
  iapply (wp_store 𝒱₀ (c : Thread nD τ) none Set.univ (m := oM) (r := oBlk j i) (Mk := Finset.univ) (Finset.subset_univ _)) $$ Ho; iintro Ho
  rw [wp_ret]; imodintro
  iapply Hk
  rw [write_blk]
  iexact Ho

/-- A block of the result read. -/
theorem out_load (j : Fin 16) (i : Fin 4) (o : Fin 2 → Nat) (ho : ∀ a, o a + S128x512.size a ≤ S2048x2048.size a) (hoo : o = ![128 * j.val, 512 * (col i).val])
    (g : Vec F S2048x2048 .f32) (k : Vec F S128x512 .f32 → Prog 𝔼 PUnit) (hl) (Q : PUnit → sProp 𝕄) :
    iprop(outPts c g ∗ (outPts c g -∗ runs c (k (blk j i g)) Q))
      ⊢ runs c (.op (.load oM (Rect.unit (s := S2048x2048) o S128x512.size ho).toLoadRect hl) k) Q := by
  subst hoo
  unfold outPts
  iintro ⟨Ho, Hk⟩
  iapply (wp_load 𝒱₀ (c : Thread nD τ) none Set.univ (m := oM) (Finset.subset_univ _)) $$ Ho; iintro Ho
  rw [read_blk]
  iapply Hk
  iexact Ho

/-- The device's own chunk put into pipe `i`'s first slot. -/
theorem first_spec (i : Fin 4) (g : Vec F S2048x2048 .f32) (hg : Own X W c (comp c 0) g) (Q : PUnit → sProp 𝕄) :
    iprop(outPts c g ∗ slotAny c i 0 ∗ ((outPts c g ∗ slot c i 0 (val X W i 0 c)) -∗ Q ⟨⟩)) ⊢ runs c (first oM cM c i) Q := by
  unfold first
  simp only [Prog.lift, Prog.bind_op, Prog.bind_ret, Prog.pure_eq_ret]
  iintro ⟨Ho, Hs, Hk⟩
  iapply (out_load c (pos c) i _ _ (firstOff_eq i c) g)
  isplitl [Ho]; · iexact Ho
  iintro Ho
  rw [shapeCast_self, hg (pos c) i (.inl (by unfold fwd; omega))]
  iapply (putSlot_spec c i 0)
  isplitl [Hs]; · iexact Hs
  iintro Hs
  iapply Hk
  isplitl [Ho]; · iexact Ho
  iexact Hs

/-- A hop's work on the chunk that has landed. -/
theorem work_spec (i : Fin 4) (h : Fin 30) (s' : Fin 2) (g : Vec F S2048x2048 .f32) (hg : InvB X W c (h.val + 2) (4 * h.val + i.val) g) (Q : PUnit → sProp 𝕄) :
    iprop(outPts c g ∗ slot c i s' (val X W i h.val (src i c))
        ∗ (((∃ g', ⌜InvB X W c (h.val + 2) (4 * h.val + i.val + 1) g'⌝ ∗ outPts c g') ∗ slot c i s' (val X W i (h.val + 1) c)) -∗ Q ⟨⟩))
      ⊢ runs c (work oM cM c i h s') Q := by
  unfold work
  simp only [Prog.lift, Prog.bind_op, Prog.bind_ret, Prog.pure_eq_ret]
  iintro ⟨Ho, Hs, Hk⟩
  iapply (slot_load c i s' (val X W i h.val (src i c)))
  isplitl [Hs]; · iexact Hs
  iintro %x %hx Hs
  by_cases h14 : 14 < h.val
  · rw [if_pos h14]
    have hv : val X W i (h.val + 1) c = val X W i h.val (src i c) := by rw [val, if_pos h14]
    rw [hx]
    iapply (putOut_spec c (at_ i c h.val) i _ _ (hopOff_eq i c h) g)
    isplitl [Ho]; · iexact Ho
    iintro Ho
    iapply Hk
    rw [hv]
    isplitl [Ho]
    · iexists _
      isplitr
      · ipureintro; exact hv ▸ InvB.put X W (h := h.val) (i := i) (Nat.le_of_lt h14) h.isLt hg
      · iexact Ho
    · iexact Hs
  · rw [if_neg h14]
    iapply (out_load c (at_ i c h.val) i _ _ (hopOff_eq i c h) g)
    isplitl [Ho]; · iexact Ho
    iintro Ho
    have hp : plus x (blk (at_ i c h.val) i g) = addf (val X W i h.val (src i c)) (share X W c (at_ i c h.val) i) := by
      unfold plus; rw [hx, shapeCast_self, InvB.read X W (h := h.val) (i := i) (Nat.le_of_not_lt h14) hg]
    rw [hp]
    ihave Hs := (slot_any c i s' _) $$ Hs
    by_cases h14' : h.val < 14
    · rw [if_pos h14']
      have hv : val X W i (h.val + 1) c = addf (val X W i h.val (src i c)) (share X W c (at_ i c h.val) i) := by rw [val, if_neg h14, if_pos h14']
      iapply (putSlot_spec c i s')
      isplitl [Hs]; · iexact Hs
      iintro Hs
      iapply Hk
      rw [hv]
      isplitl [Ho]
      · iexists g
        isplitr
        · ipureintro; exact InvB.skip X W (h := h.val) (i := i) h14' hg
        · iexact Ho
      · iexact Hs
    · rw [if_neg h14']
      have hv : val X W i (h.val + 1) c = act (addf (val X W i h.val (src i c)) (share X W c (at_ i c h.val) i)) := by rw [val, if_neg h14, if_neg h14']
      rw [runs_bind]
      iapply (putOut_spec c (at_ i c h.val) i _ _ (hopOff_eq i c h) g)
      isplitl [Ho]; · iexact Ho
      iintro Ho
      iapply (putSlot_spec c i s')
      isplitl [Hs]; · iexact Hs
      iintro Hs
      iapply Hk
      rw [hv]
      isplitl [Ho]
      · iexists _
        isplitr
        · ipureintro; exact hv ▸ InvB.put X W (h := h.val) (i := i) (Nat.le_of_not_lt h14') h.isLt hg
        · iexact Ho
      · iexact Hs

/-! ## What a device holds between the steps -/

/-- When what arrives at hop `h` is sent. -/
def rstamp (h : ℕ) (i : Fin 4) : ℕ := if h = 0 then 2 else 4 + 2 * (4 * (h - 1) + i.val)

/-- The device's dues, whatever it has waited for. -/
def owing (O : CellTallies nD τ sig ℕ) : sProp 𝕄 := iprop(∃ Ws, owes (c : Thread nD τ) O Ws)

/-- What step `k` uses up: the right to its ready signal and to its transfer's two ends, and the credit for the signal
    and the transfer that come in meanwhile. -/
def stuff (k : ℕ) : sProp 𝕄 :=
  iprop(dutyTok ER (rdyC (src (pipe k) c) (pipe k)) (k / 4) false
    ∗ dutyTok ER (sndC c (pipe k) (par (k / 4 + 1))) ((k / 4 + 1) / 2) false
    ∗ dutyTok ER (rcvC (dst (pipe k) c) (pipe k) (par (k / 4))) ((k / 4 + 1) / 2) false
    ∗ cred (tallyAt (rdyC c (pipe k)) (3 + 2 * k) 1)
    ∗ cred (tallyAt (rcvC c (pipe k) (par (k / 4))) (4 + 2 * k) N))

/-- The device before step `k`, with `n` chunks computed either way. -/
def St (n k : ℕ) : sProp 𝕄 :=
  iprop(owing c (owedFrom c k) ∗ (bigSep (Finset.Ico k 116) (stuff c)) ∗ (∃ g, ⌜InvB X W c n k g⌝ ∗ outPts c g))

/-- The end of pipe `i`'s run: both slots. -/
def slots (i : Fin 4) : sProp 𝕄 := iprop(slotAny c i 0 ∗ slotAny c i 1)
/-- What pipe `i` waits for at hop `h`. -/
def due (i : Fin 4) (h : ℕ) : sProp 𝕄 :=
  iprop(cred (tallyAt (sndC c i (par h)) 0 N) ∗ cred (tallyAt (rcvC c i (par (h + 1))) (rstamp h i) N))
/-- Pipe `i`'s places in its semaphores' rounds before hop `h`. -/
def places (i : Fin 4) (h : ℕ) : sProp 𝕄 :=
  iprop(atPos ER (sndC c i (par h)) (h / 2) ∅ 0 ∗ atPos ER (rcvC c i (par (h + 1))) (h / 2) ∅ 0
    ∗ atPos ER (sndC c i (par (h + 1))) ((h + 1) / 2) ∅ 0 ∗ atPos ER (rcvC c i (par h)) ((h + 1) / 2) ∅ 0
    ∗ reached ER (sndC c i (par (h + 1))) ((h + 1) / 2) ∗ reached ER (rcvC c i (par h)) ((h + 1) / 2)
    ∗ atPos ER (rdyC c i) (min h 29) ∅ 0)
/-- Pipe `i` before hop `h`. -/
def PipeSt (i : Fin 4) (h : ℕ) : sProp 𝕄 := iprop(places c i h ∗ if h < 30 then due c i h else slots c i)

/-- After the last hop a pipe holds its two slots. -/
theorem PipeSt_end (i : Fin 4) : PipeSt (F := F) c i 30 = iprop(places c i 30 ∗ slotAny c i 0 ∗ slotAny c i 1) := by
  unfold PipeSt slots; rw [if_neg (by decide)]
/-- Slots alternate. -/
theorem par_two (h : ℕ) : par (h + 2) = par h := Fin.ext (by show (h + 2) % 2 = h % 2; omega)
/-- Two hops on, the next round of a slot. -/
theorem half_two (h : ℕ) : (h + 2) / 2 = h / 2 + 1 := by omega

/-- One step's share taken from what is left. -/
theorem stuff_next (k : ℕ) (hk : k < 116) : bigSep (Finset.Ico k 116) (stuff (F := F) c) = iprop(stuff c k ∗ bigSep (Finset.Ico (k + 1) 116) (stuff c)) := by
  rw [steps_from k hk, bigSep_insert (by rw [Finset.mem_Ico]; omega)]; rfl

/-! ## The steps of the protocol -/

/-- A hop's two waits. -/
theorem arrive_spec (i : Fin 4) (h : ℕ) (hh : h < 30) (O : CellTallies nD τ sig ℕ) (hO : Above 0 O) (hO' : Above (rstamp h i) O) (Q : PUnit → sProp 𝕄) :
    iprop(records X W K ∗ levAts L lv ∗ owing c O ∗ due c i h
        ∗ atPos ER (sndC c i (par h)) (h / 2) ∅ 0 ∗ atPos ER (rcvC c i (par (h + 1))) (h / 2) ∅ 0
        ∗ ((owing c O
            ∗ (atPos ER (sndC c i (par h)) (h / 2 + 1) ∅ 0 ∗ reached ER (sndC c i (par h)) (h / 2 + 1))
            ∗ (atPos ER (rcvC c i (par (h + 1))) (h / 2 + 1) ∅ 0 ∗ reached ER (rcvC c i (par (h + 1))) (h / 2 + 1))
            ∗ slotAny c i (par h) ∗ slot c i (par (h + 1)) (val X W i h (src i c)) ∗ reached ER (rdyC (src i c) i) h) -∗ Q ⟨⟩))
      ⊢ runs c (arrive cM cc0_scratch1 cc0_scratch2 i (par h) (par (h + 1))) Q := by
  have hι : rstamp h i < 1000 := by unfold rstamp; have := i.isLt; split <;> omega
  unfold arrive owing due
  simp only [Prog.lift, Prog.bind_op, Prog.bind_ret, Prog.pure_eq_ret]
  iintro ⟨#Hrec, #Hlev, ⟨%Ws, HO⟩, ⟨HcS, HcR⟩, HaS, HaR, Hk⟩
  iapply (Rounds.wp_wait_rest_token 𝒱₀ ER (ringRd X W) (c : Thread nD τ) none (sm := .dma (semAt cc0_scratch1 i (par h))) (κ := K (c, some (i, .snd (par h))))
      (wpE_waitDma2_eq 𝒱₀ (c : Thread nD τ) none Set.univ) (Set.mem_univ _) 0 (O := O) (W := Ws) (R := h / 2) (m := 0) (T := ∅)
      (by rw [Nat.zero_add]; exact (expect_snd X W c i (par h) (h / 2) (by omega)).symm)) $$ [HcS HO HaS]
  · isplitr; · iapply (inv_snd X W K c i (par h)); iexact Hrec
    isplitl [HcS]; · iexact HcS
    isplitl [HO]; · iexact HO
    isplitr; · iapply (mayWait c (.dma (semAt cc0_scratch1 i (par h))) 0 O (by decide) hO); iexact Hlev
    iexact HaS
  iintro ⟨HO, HaS, HrS, Hpay⟩
  ihave HsS := (Entails.of_eq (rest_snd X W c i (par h) (h / 2) (by omega))) $$ Hpay
  iapply (Rounds.wp_wait_rest_token 𝒱₀ ER (ringRd X W) (c : Thread nD τ) none (sm := .dma (semAt cc0_scratch2 i (par (h + 1)))) (κ := K (c, some (i, .rcv (par (h + 1)))))
      (wpE_waitDma2_eq 𝒱₀ (c : Thread nD τ) none Set.univ) (Set.mem_univ _) (rstamp h i) (O := O)
      (W := insert (SemLoc.dma (semAt cc0_scratch1 i (par h)), 0) Ws) (R := h / 2) (m := 0) (T := ∅)
      (by rw [Nat.zero_add]; exact (expect_rcv X W c i (par (h + 1)) (h / 2) (by omega)).symm)) $$ [HcR HO HaR]
  · isplitr; · iapply (inv_rcv X W K c i (par (h + 1))); iexact Hrec
    isplitl [HcR]; · iexact HcR
    isplitl [HO]; · iexact HO
    isplitr; · iapply (mayWait c (.dma (semAt cc0_scratch2 i (par (h + 1)))) (rstamp h i) O hι hO'); iexact Hlev
    iexact HaR
  iintro ⟨HO, HaR, HrR, Hpay⟩
  ihave Hp := (Entails.of_eq (rest_rcv X W c i (par (h + 1)) (h / 2) (by omega))) $$ Hpay
  have hhop : 2 * (h / 2) + (1 - (par (h + 1)).val) = h := by show 2 * (h / 2) + (1 - (h + 1) % 2) = h; omega
  rw [hhop]
  unfold rcvPay
  icases Hp with ⟨HsR, HrY⟩
  rw [wp_ret]; imodintro
  iapply Hk
  isplitl [HO]; · iexists _; iexact HO
  isplitl [HaS HrS]; · isplitl [HaS] <;> iassumption
  isplitl [HaR HrR]; · isplitl [HaR] <;> iassumption
  isplitl [HsS]; · iexact HsS
  isplitl [HsR] <;> iassumption

/-- The start of pipe `i`'s transfer of hop `h`, out of slot `s` into the neighbour's slot `s'`, raising the sender's
    semaphore in its round `r` and the neighbour's in its. -/
theorem send_spec (i : Fin 4) (s s' : Fin 2) (r h ι : ℕ) (hr : r < 15) (hh : 2 * r + (1 - s'.val) = h)
    (O : CellTallies nD τ sig ℕ) (Q : PUnit → sProp 𝕄) :
    iprop(records X W K ∗ slot c i s (val X W i h c) ∗ slotAny (dst i c) i s' ∗ reached ER (rdyC c i) h
        ∗ owing c (O + tallyAt (rcvC (dst i c) i s') ι N)
        ∗ dutyTok ER (sndC c i s) r false ∗ reached ER (sndC c i s) r
        ∗ dutyTok ER (rcvC (dst i c) i s') r false ∗ reached ER (rcvC (dst i c) i s') r
        ∗ ((cred (tallyAt (sndC c i s) 0 N) ∗ owing c O) -∗ Q ⟨⟩))
      ⊢ runs c (send cM cc0_scratch1 cc0_scratch2 c i s s') Q := by
  unfold send owing slot slotAny slotPts
  simp only [Prog.lift]
  iintro ⟨#Hrec, ⟨%f, %hf, Hs⟩, ⟨%fn, Hd⟩, HrY, ⟨%Ws, HO⟩, HtS, HrS, HtR, HrR, Hk⟩
  iapply (Rounds.wp_send_pointsTo_with 𝒱₀ ER (ringRd X W) (c : Thread nD τ) none (c' := ((dst i c : Dev nD) : Thread nD τ))
    (src := slotM cM i s) (dst := slotM cM i s') (sS := .dma (semAt cc0_scratch1 i s)) (sem := .dma (semAt cc0_scratch2 i s'))
    (κ₁ := K (c, some (i, .snd s))) (κ₂ := K (dst i c, some (i, .rcv s'))) (q := fullShare) (fs := f)
    (r₁ := r) (r₂ := r) (d₁ := false) (d₂ := false) (fd := fn) (F := reached ER (rdyC c i) h)
    (by rw [duties_snd X W c i s r hr]; exact Finset.mem_singleton_self _) (by rw [duties_rcv X W (dst i c) i s' r hr]; exact Finset.mem_singleton_self _)
    ι 0 N rfl (amount_snd X W c i s r false) (amount_rcv X W (dst i c) i s' r false) O rfl (W := Ws)
    (by rw [payload_snd]; unfold sndPay slotAny slotPts; iintro H; iexists f; iexact H)
    (by
      rw [payload_rcv, hh]; unfold rcvPay slot slotPts; rw [src_dst]
      iintro ⟨H, HY⟩
      isplitl [H]
      · iexists (slotM cM i s').view.write (Elt F) fn ((slotM cM i s).view.read (Elt F) f) Finset.univ
        isplitr
        · ipureintro; exact (View.read_write_univ _ _).trans hf
        · iexact H
      · iexact HY)) $$ [Hs Hd HrY HO HtS HrS HtR HrR]
  · isplitr; · iapply (inv_snd X W K c i s); iexact Hrec
    isplitr; · iapply (inv_rcv X W K (dst i c) i s'); iexact Hrec
    isplitl [Hs]; · iexact Hs
    isplitl [Hd HrY]; · isplitl [Hd] <;> iassumption
    isplitl [HO]; · iexact HO
    isplitl [HtS]; · iexact HtS
    isplitl [HrS]; · iexact HrS
    isplitl [HtR] <;> iassumption
  iintro ⟨Hc, HO⟩
  rw [wp_ret]; imodintro
  iapply Hk
  isplitl [Hc]; · iexact Hc
  iexists Ws; iexact HO

/-- What hop `h` of pipe `i` uses up. -/
theorem stuff_at (i : Fin 4) (h : ℕ) : stuff (F := F) c (4 * h + i.val) =
    iprop(dutyTok ER (rdyC (src i c) i) h false
      ∗ dutyTok ER (sndC c i (par (h + 1))) ((h + 1) / 2) false
      ∗ dutyTok ER (rcvC (dst i c) i (par h)) ((h + 1) / 2) false
      ∗ cred (tallyAt (rdyC c i) (3 + 2 * (4 * h + i.val)) 1)
      ∗ cred (tallyAt (rcvC c i (par h)) (4 + 2 * (4 * h + i.val)) N)) := by
  unfold stuff; rw [pipe_eq, hop_eq]
/-- What hop `h` of pipe `i` pays. -/
theorem owed_at (i : Fin 4) (h : ℕ) (hh : h < 29) : owedFrom c (4 * h + i.val) =
    (owedFrom c (4 * h + i.val + 1) + tallyAt (rcvC (dst i c) i (par h)) (4 + 2 * (4 * h + i.val)) N)
      + tallyAt (rdyC (src i c) i) (3 + 2 * (4 * h + i.val)) 1 := by
  rw [owedFrom_step c _ (by have := i.isLt; omega), sndT, rdyT, pipe_eq, hop_eq]

/-- A hop's slot passed on. -/
theorem pass_spec (i : Fin 4) (h : ℕ) (hh : h < 29) (Q : PUnit → sProp 𝕄) :
    iprop(records X W K ∗ levAts L lv ∗ owing c (owedFrom c (4 * h + i.val)) ∗ stuff c (4 * h + i.val)
        ∗ slotAny c i (par h) ∗ slot c i (par (h + 1)) (val X W i (h + 1) c)
        ∗ reached ER (rdyC (src i c) i) h ∗ reached ER (rcvC c i (par h)) ((h + 1) / 2) ∗ reached ER (sndC c i (par (h + 1))) ((h + 1) / 2)
        ∗ atPos ER (rdyC c i) h ∅ 0
        ∗ ((owing c (owedFrom c (4 * h + i.val + 1)) ∗ cred (tallyAt (sndC c i (par (h + 1))) 0 N)
            ∗ cred (tallyAt (rcvC c i (par h)) (4 + 2 * (4 * h + i.val)) N) ∗ atPos ER (rdyC c i) (h + 1) ∅ 0) -∗ Q ⟨⟩))
      ⊢ runs c (pass cM cc0_scratch1 cc0_scratch2 cc0_scratch3 c i (par h) (par (h + 1))) Q := by
  have hi := i.isLt
  rw [stuff_at, owed_at c i h hh]
  unfold pass owing
  simp only [semSignalWord, semWaitWord, Prog.bind_op, Prog.bind_ret]
  iintro ⟨#Hrec, #Hlev, ⟨%Ws, HO⟩, ⟨HtY, HtS, HtR, HcY, HcR⟩, Hfree, Hs, #HrY, #HrR, #HrS, HaY, Hk⟩
  iapply (Rounds.wp_signal 𝒱₀ ER (ringRd X W) (c : Thread nD τ) none (dst := ((src i c : Dev nD) : Thread nD τ)) (sem := rdyAt cc0_scratch3 i) (r := h) (d := false)
      (κ := K (src i c, some (i, .rdy)))
      (by rw [duties_rdy X W (src i c) i h hh]; exact Finset.mem_singleton_self _) ((amount_rdy X W (src i c) i h false).trans (by decide))
      (3 + 2 * (4 * h + i.val)) (owedFrom c (4 * h + i.val + 1) + tallyAt (rcvC (dst i c) i (par h)) (4 + 2 * (4 * h + i.val)) N) rfl)
    $$ [HO HtY Hfree]
  · isplitr; · iapply (inv_rdy X W K (src i c) i); iexact Hrec
    isplitl [HO]; · iexact HO
    isplitl [HtY]; · iexact HtY
    isplitl [Hfree]
    · rw [payload_rdy]; unfold rdyPay; rw [dst_src]
      isplitl [Hfree]; · iexact Hfree
      iexact HrR
    · iexact HrY
  iintro HO
  iapply (Rounds.wp_wait_rest_token 𝒱₀ ER (ringRd X W) (c : Thread nD τ) none (sm := .reg (rdyAt cc0_scratch3 i)) (κ := K (c, some (i, .rdy)))
      (wpE_semWait_eq 𝒱₀ (c : Thread nD τ) none Set.univ) (Set.mem_univ _) (3 + 2 * (4 * h + i.val))
      (O := owedFrom c (4 * h + i.val + 1) + tallyAt (rcvC (dst i c) i (par h)) (4 + 2 * (4 * h + i.val)) N) (W := Ws) (R := h) (m := 0) (T := ∅)
      (by rw [expect_rdy X W c i h hh]; decide)) $$ [HcY HO HaY]
  · isplitr; · iapply (inv_rdy X W K c i); iexact Hrec
    isplitl [HcY]; · iexact HcY
    isplitl [HO]; · iexact HO
    isplitr
    · iapply (mayWait c (.reg (rdyAt cc0_scratch3 i)) (3 + 2 * (4 * h + i.val)) _ (by omega)
        ((above_owedFrom c _ _ (by omega)).add (Above.tally _ _ _ _ (by omega) (by omega)))); iexact Hlev
    iexact HaY
  iintro ⟨HO, HaY, HrY', Hpay⟩
  ihave Hp := (Entails.of_eq (rest_rdy X W c i h hh)) $$ Hpay
  unfold rdyPay
  icases Hp with ⟨Hd, HrD⟩
  iapply (send_spec X W K c i (par (h + 1)) (par h) ((h + 1) / 2) (h + 1) (4 + 2 * (4 * h + i.val)) (by omega)
    (by show 2 * ((h + 1) / 2) + (1 - h % 2) = h + 1; omega) (owedFrom c (4 * h + i.val + 1)))
  unfold owing
  isplitr; · iexact Hrec
  isplitl [Hs]; · iexact Hs
  isplitl [Hd]; · iexact Hd
  isplitl [HrY']; · iexact HrY'
  isplitl [HO]; · iexists _; iexact HO
  isplitl [HtS]; · iexact HtS
  isplitr; · iexact HrS
  isplitl [HtR]; · iexact HtR
  isplitl [HrD]; · iexact HrD
  iintro ⟨HcS, HO⟩
  iapply Hk
  isplitl [HO]; · iexact HO
  isplitl [HcS]; · iexact HcS
  isplitl [HcR] <;> iassumption

/-- A hop. -/
theorem hop_spec (i : Fin 4) (h : Fin 30) (Q : PUnit → sProp 𝕄) :
    iprop(records X W K ∗ levAts L lv ∗ St X W c (h.val + 2) (4 * h.val + i.val) ∗ PipeSt c i h.val
        ∗ ((St X W c (h.val + 2) (4 * h.val + i.val + 1) ∗ PipeSt c i (h.val + 1)) -∗ Q ⟨⟩))
      ⊢ runs c (hop oM cM cc0_scratch1 cc0_scratch2 cc0_scratch3 c h i) Q := by
  have hi := i.isLt
  have hh := h.isLt
  unfold hop St PipeSt
  rw [if_pos hh, runs_bind]
  simp only [runs_bind]
  unfold places
  rw [par_two, half_two]
  iintro ⟨#Hrec, #Hlev, ⟨HO, Hst, ⟨%g, %hg, Hout⟩⟩, ⟨⟨HaS, HaR, HaS', HaR', #HrS', #HrR', HaY⟩, Hdue⟩, Hk⟩
  iapply (arrive_spec X W K c i h.val hh (owedFrom c (4 * h.val + i.val)) (above_owedFrom c _ _ (by omega))
    (above_owedFrom c _ _ (by unfold rstamp; split <;> omega)))
  isplitr; · iexact Hrec
  isplitr; · iexact Hlev
  isplitl [HO]; · iexact HO
  isplitl [Hdue]; · iexact Hdue
  isplitl [HaS]; · iexact HaS
  isplitl [HaR]; · iexact HaR
  iintro ⟨HO, ⟨HaS, #HrS⟩, ⟨HaR, #HrR⟩, Hfree, Hs, #HrY⟩
  iapply (work_spec X W c i h (par (h.val + 1)) g hg)
  isplitl [Hout]; · iexact Hout
  isplitl [Hs]; · iexact Hs
  iintro ⟨Hout, Hs⟩
  by_cases hl : h.val < 29
  · rw [if_pos hl, if_pos (show h.val + 1 < 30 by omega), Nat.min_eq_left (Nat.le_of_lt hl), Nat.min_eq_left (show h.val + 1 ≤ 29 by omega)]
    ihave Hst := (Entails.of_eq (stuff_next c _ (show 4 * h.val + i.val < 116 by omega))) $$ Hst
    icases Hst with ⟨Hs1, Hst⟩
    iapply (pass_spec X W K c i h.val hl)
    isplitr; · iexact Hrec
    isplitr; · iexact Hlev
    isplitl [HO]; · iexact HO
    isplitl [Hs1]; · iexact Hs1
    isplitl [Hfree]; · iexact Hfree
    isplitl [Hs]; · iexact Hs
    isplitr; · iexact HrY
    isplitr; · iexact HrR'
    isplitr; · iexact HrS'
    isplitl [HaY]; · iexact HaY
    iintro ⟨HO, HcS, HcR, HaY⟩
    iapply Hk
    isplitl [HO Hst Hout]
    · isplitl [HO]; · iexact HO
      isplitl [Hst]; · iexact Hst
      iexact Hout
    isplitr [HcS HcR]
    · isplitl [HaS']; · iexact HaS'
      isplitl [HaR']; · iexact HaR'
      isplitl [HaS]; · iexact HaS
      isplitl [HaR]; · iexact HaR
      isplitr; · iexact HrS
      isplitr; · iexact HrR
      iexact HaY
    · unfold due
      rw [par_two, show rstamp (h.val + 1) i = 4 + 2 * (4 * h.val + i.val) from if_neg (Nat.succ_ne_zero _)]
      isplitl [HcS] <;> iassumption
  · have h29 : h.val = 29 := by omega
    rw [if_neg hl, if_neg (show ¬ h.val + 1 < 30 by omega), Nat.min_eq_right (Nat.le_of_not_lt hl), Nat.min_eq_right (show 29 ≤ h.val + 1 by omega),
      owedFrom_end c _ (show 116 ≤ 4 * h.val + i.val by omega), owedFrom_end c _ (show 116 ≤ 4 * h.val + i.val + 1 by omega),
      Finset.Ico_eq_empty (show ¬ 4 * h.val + i.val < 116 by omega), Finset.Ico_eq_empty (show ¬ 4 * h.val + i.val + 1 < 116 by omega)]
    simp only [Prog.pure_eq_ret]
    iapply (runs_ret c)
    iapply Hk
    isplitl [HO Hst Hout]
    · isplitl [HO]; · iexact HO
      isplitl [Hst]; · iexact Hst
      iexact Hout
    isplitr [Hfree Hs]
    · isplitl [HaS']; · iexact HaS'
      isplitl [HaR']; · iexact HaR'
      isplitl [HaS]; · iexact HaS
      isplitl [HaR]; · iexact HaR
      isplitr; · iexact HrS
      isplitr; · iexact HrR
      iexact HaY
    · unfold slots
      rw [h29]
      ihave Hs := (slot_any c i (par (29 + 1)) _) $$ Hs
      isplitl [Hs]; · iexact Hs
      iexact Hfree

/-! ## The chunks computed while the transfers are under way -/

/-- A chunk computed ahead. -/
theorem up_spec (r : Fin 8) (g : Vec F S2048x2048 .f32) (Q : PUnit → sProp 𝕄) :
    iprop(xwPts X W c ∗ outPts c g ∗ ((xwPts X W c ∗ outPts c (setRow (plus_ c (1 + r.val)) g (row X W c (plus_ c (1 + r.val))))) -∗ Q ⟨⟩))
      ⊢ runs c (up xM wM oM c r) Q :=
  chunk_spec X W c (plus_ c (1 + r.val)) _ _ _ _ (off7_eq c r) (off8_eq c r) g Q
/-- A chunk computed behind. -/
theorem down_spec (r : Fin 7) (g : Vec F S2048x2048 .f32) (Q : PUnit → sProp 𝕄) :
    iprop(xwPts X W c ∗ outPts c g ∗ ((xwPts X W c ∗ outPts c (setRow (plus_ c (16 - (1 + r.val))) g (row X W c (plus_ c (16 - (1 + r.val)))))) -∗ Q ⟨⟩))
      ⊢ runs c (down xM wM oM c r) Q :=
  chunk_spec X W c (plus_ c (16 - (1 + r.val))) _ _ _ _ (off9_eq c r) (off10_eq c r) g Q

/-- Two more chunks, while any are left. -/
theorem ahead_spec (h : ℕ) (Q : PUnit → sProp 𝕄) :
    iprop(xwPts X W c ∗ (∃ g, ⌜InvB X W c (h + 1) (4 * h) g⌝ ∗ outPts c g)
        ∗ ((xwPts X W c ∗ (∃ g, ⌜InvB X W c (h + 2) (4 * h) g⌝ ∗ outPts c g)) -∗ Q ⟨⟩))
      ⊢ runs c (ahead xM wM oM c h) Q := by
  unfold ahead
  iintro ⟨Hxw, ⟨%g, %hg, Ho⟩, Hk⟩
  by_cases h8 : h + 1 < 8
  · have hO := hg.toOwn X W (show 4 * h ≤ 56 by omega)
    have hU := hO.set X W (plus_ c (1 + (h + 1)))
    rw [dif_pos h8, runs_bind]
    iapply (up_spec X W c ⟨h + 1, h8⟩ g)
    isplitl [Hxw]; · iexact Hxw
    isplitl [Ho]; · iexact Ho
    iintro ⟨Hxw, Ho⟩
    by_cases h7 : h + 1 < 7
    · have hD := hU.set X W (plus_ c (16 - (1 + (h + 1))))
      rw [dif_pos h7]
      iapply (down_spec X W c ⟨h + 1, h7⟩ _)
      isplitl [Hxw]; · iexact Hxw
      isplitl [Ho]; · iexact Ho
      iintro ⟨Hxw, Ho⟩
      iapply Hk
      isplitl [Hxw]; · iexact Hxw
      iexists _
      isplitr
      · ipureintro
        exact (hD.mono X W fun j hj => (comp_succ c h j hj).elim (fun h' => .inl (.inl h')) fun h' =>
          h'.elim (fun h' => .inl (.inr (h'.2.trans (by rw [show 1 + (h + 1) = h + 2 by omega])))) (fun h' => .inr (h'.2.trans (by rw [show 1 + (h + 1) = h + 2 by omega])))).toInv X W (by omega)
      · iexact Ho
    · rw [dif_neg h7]
      simp only [Prog.pure_eq_ret]
      iapply (runs_ret c)
      iapply Hk
      isplitl [Hxw]; · iexact Hxw
      iexists _
      isplitr
      · ipureintro
        exact (hU.mono X W fun j hj => (comp_succ c h j hj).elim (fun h' => .inl h') fun h' =>
          h'.elim (fun h' => .inr (h'.2.trans (by rw [show 1 + (h + 1) = h + 2 by omega]))) (fun h' => absurd h'.1 h7)).toInv X W (by omega)
      · iexact Ho
  · rw [dif_neg h8, dif_neg (show ¬ h + 1 < 7 by omega)]
    simp only [Prog.pure_eq_ret]
    iapply (runs_ret c)
    iapply Hk
    isplitl [Hxw]; · iexact Hxw
    iexists g
    isplitr
    · ipureintro
      exact ⟨fun j i hj => hg.own j i ((comp_succ c h j hj).elim id fun h' => h'.elim (fun h' => absurd h'.1 h8) fun h' => absurd h'.1 (by omega)), hg.fin⟩
    · iexact Ho

/-! ## The rounds -/

/-- The four pipes before hop `h`. -/
def pipes (h : ℕ) : sProp 𝕄 := iprop(PipeSt c 0 h ∗ PipeSt c 1 h ∗ PipeSt c 2 h ∗ PipeSt c 3 h)

/-- A round. -/
theorem round_spec (h : Fin 30) (Q : PUnit → sProp 𝕄) :
    iprop(records X W K ∗ levAts L lv ∗ xwPts X W c ∗ St X W c (h.val + 1) (4 * h.val) ∗ pipes c h.val
        ∗ ((xwPts X W c ∗ St X W c (h.val + 1 + 1) (4 * (h.val + 1)) ∗ pipes c (h.val + 1)) -∗ Q ⟨⟩))
      ⊢ runs c (round xM wM oM cM cc0_scratch1 cc0_scratch2 cc0_scratch3 c h) Q := by
  unfold round pipes
  simp only [runs_bind]
  iintro ⟨#Hrec, #Hlev, Hxw, HSt, ⟨P0, P1, P2, P3⟩, Hk⟩
  unfold St
  icases HSt with ⟨HO, Hst, Hout⟩
  iapply (ahead_spec X W c h.val)
  isplitl [Hxw]; · iexact Hxw
  isplitl [Hout]; · iexact Hout
  iintro ⟨Hxw, Hout⟩
  iapply (hop_spec X W K c 0 h)
  isplitr; · iexact Hrec
  isplitr; · iexact Hlev
  isplitl [HO Hst Hout]
  · unfold St
    isplitl [HO]; · iexact HO
    isplitl [Hst]; · iexact Hst
    iexact Hout
  isplitl [P0]; · iexact P0
  iintro ⟨HSt, P0⟩
  iapply (hop_spec X W K c 1 h)
  isplitr; · iexact Hrec
  isplitr; · iexact Hlev
  isplitl [HSt]; · iexact HSt
  isplitl [P1]; · iexact P1
  iintro ⟨HSt, P1⟩
  iapply (hop_spec X W K c 2 h)
  isplitr; · iexact Hrec
  isplitr; · iexact Hlev
  isplitl [HSt]; · iexact HSt
  isplitl [P2]; · iexact P2
  iintro ⟨HSt, P2⟩
  iapply (hop_spec X W K c 3 h)
  isplitr; · iexact Hrec
  isplitr; · iexact Hlev
  isplitl [HSt]; · iexact HSt
  isplitl [P3]; · iexact P3
  iintro ⟨HSt, P3⟩
  iapply Hk
  isplitl [Hxw]; · iexact Hxw
  isplitl [HSt]
  · unfold St; iexact HSt
  isplitl [P0]; · iexact P0
  isplitl [P1]; · iexact P1
  isplitl [P2] <;> iassumption

/-- The last `n` rounds. -/
theorem rounds_spec (n : ℕ) (hn : n ≤ 30) (Q : PUnit → sProp 𝕄) :
    iprop(records X W K ∗ levAts L lv ∗ xwPts X W c ∗ St X W c (30 - n + 1) (4 * (30 - n)) ∗ pipes c (30 - n)
        ∗ ((xwPts X W c ∗ St X W c 31 120 ∗ pipes c 30) -∗ Q ⟨⟩))
      ⊢ runs c (rounds xM wM oM cM cc0_scratch1 cc0_scratch2 cc0_scratch3 c n hn) Q := by
  induction n with
  | zero =>
    unfold rounds
    simp only [Prog.pure_eq_ret]
    iintro ⟨-, -, Hxw, HSt, P, Hk⟩
    iapply (runs_ret c)
    iapply Hk
    isplitl [Hxw]; · iexact Hxw
    isplitl [HSt] <;> iassumption
  | succ n ih =>
    have h1 : 29 - n < 30 := by omega
    have h2 : n ≤ 30 := by omega
    unfold rounds
    rw [runs_bind, show 30 - (n + 1) = 29 - n by omega]
    iintro ⟨#Hrec, #Hlev, Hxw, HSt, P, Hk⟩
    iapply (round_spec X W K c ⟨29 - n, h1⟩)
    isplitr; · iexact Hrec
    isplitr; · iexact Hlev
    isplitl [Hxw]; · iexact Hxw
    isplitl [HSt]; · iexact HSt
    isplitl [P]; · iexact P
    iintro ⟨Hxw, HSt, P⟩
    iapply (ih h2)
    rw [show 30 - n = 29 - n + 1 by omega]
    isplitr; · iexact Hrec
    isplitr; · iexact Hlev
    isplitl [Hxw]; · iexact Hxw
    isplitl [HSt]; · iexact HSt
    isplitl [P] <;> iassumption

/-! ## The barrier and the first transfers -/

/-- What the barrier uses up: the rights to its two signals, and the credit for the two that come in. -/
def barStuff : sProp 𝕄 :=
  iprop(dutyTok ER (barC (lft c)) 0 true ∗ dutyTok ER (barC (rgt c)) 0 false
    ∗ cred (tallyAt (barC c) 1 1) ∗ cred (tallyAt (barC c) 1 1) ∗ atPos ER (barC c) 0 ∅ 0)

/-- What is owed once the barrier is passed. -/
def O₁ : CellTallies nD τ sig ℕ := owedFrom c 0 + (((snd0T c 3 + snd0T c 2) + snd0T c 1) + snd0T c 0)
/-- What is owed after the barrier is due after it. -/
theorem above_O₁ : Above 1 (O₁ c) :=
  (above_owedFrom c 0 1 (by decide)).add ((((above_snd0 c 3 1 (by decide)).add (above_snd0 c 2 1 (by decide))).add (above_snd0 c 1 1 (by decide))).add
    (above_snd0 c 0 1 (by decide)))

/-- The barrier: the device's slots 1 go to the neighbours that send into them, the neighbours' come. -/
theorem meet_spec (Q : PUnit → sProp 𝕄) :
    iprop(records X W K ∗ levAts L lv ∗ owing c (O₀ c) ∗ barStuff c
        ∗ slotAny c 0 1 ∗ slotAny c 1 1 ∗ slotAny c 2 1 ∗ slotAny c 3 1
        ∗ ((owing c (O₁ c) ∗ atPos ER (barC c) 1 ∅ 0
            ∗ slotAny (dst 0 c) 0 1 ∗ slotAny (dst 1 c) 1 1 ∗ slotAny (dst 2 c) 2 1 ∗ slotAny (dst 3 c) 3 1) -∗ Q ⟨⟩))
      ⊢ runs c (meet c) Q := by
  unfold meet owing barStuff
  simp only [semSignalWord, semWaitWord, Prog.bind_op, Prog.bind_ret]
  iintro ⟨#Hrec, #Hlev, ⟨%Ws, HO⟩, ⟨HtL, HtR, Hc, Hc', Ha⟩, H0, H1, H2, H3, Hk⟩
  iapply (Rounds.wp_signal 𝒱₀ ER (ringRd X W) (c : Thread nD τ) none (dst := ((lft c : Dev nD) : Thread nD τ)) (sem := barS) (r := 0) (d := true)
      (κ := K (lft c, none))
      (by rw [duties_bar]; decide) ((amount_bar X W (lft c) 0 true).trans (by decide))
      1 (O₁ c + tallyAt (barC (rgt c)) 1 1) rfl) $$ [HO HtL H0 H2]
  · isplitr; · iapply (inv_bar X W K (lft c)); iexact Hrec
    isplitl [HO]; · iexact HO
    isplitl [HtL]; · iexact HtL
    isplitl [H0 H2]
    · rw [payload_bar]; unfold barPay; simp only [rgt_lft]
      isplitl [H0] <;> iassumption
    · iapply (zero_bar X W K (lft c)); iexact Hrec
  iintro HO
  iapply (Rounds.wp_signal 𝒱₀ ER (ringRd X W) (c : Thread nD τ) none (dst := ((rgt c : Dev nD) : Thread nD τ)) (sem := barS) (r := 0) (d := false)
      (κ := K (rgt c, none))
      (by rw [duties_bar]; decide) ((amount_bar X W (rgt c) 0 false).trans (by decide))
      1 (O₁ c) rfl) $$ [HO HtR H1 H3]
  · isplitr; · iapply (inv_bar X W K (rgt c)); iexact Hrec
    isplitl [HO]; · iexact HO
    isplitl [HtR]; · iexact HtR
    isplitl [H1 H3]
    · rw [payload_bar]; unfold barPay; simp only [lft_rgt]
      isplitl [H1] <;> iassumption
    · iapply (zero_bar X W K (rgt c)); iexact Hrec
  iintro HO
  have hc : tallyAt (barC c) 1 1 + tallyAt (barC c) 1 1 = (tallyAt (barC c) 1 2 : CellTallies nD τ sig ℕ) := tallyAt_add _ _ _ _
  ihave Hc := ((cred_add _ _).2.trans (Entails.of_eq (congrArg cred hc))) $$ [Hc Hc']
  · isplitl [Hc] <;> iassumption
  iapply (Rounds.wp_wait_rest_token 𝒱₀ ER (ringRd X W) (c : Thread nD τ) none (sm := .reg barS) (κ := K (c, none))
      (wpE_semWait_eq 𝒱₀ (c : Thread nD τ) none Set.univ) (Set.mem_univ _) 1
      (O := O₁ c) (W := Ws) (R := 0) (m := 0) (T := ∅)
      (by rw [expect_bar]; decide)) $$ [Hc HO Ha]
  · isplitr; · iapply (inv_bar X W K c); iexact Hrec
    isplitl [Hc]; · iexact Hc
    isplitl [HO]; · iexact HO
    isplitr; · iapply (mayWait c (.reg barS) 1 (O₁ c) (by decide) (above_O₁ c)); iexact Hlev
    iexact Ha
  iintro ⟨HO, Ha, -, Hpay⟩
  ihave Hp := (Entails.of_eq (rest_bar X W c)) $$ Hpay
  unfold barPay
  icases Hp with ⟨⟨H1, H3⟩, H0, H2⟩
  iapply (runs_ret c)
  iapply Hk
  isplitl [HO]; · iexists _; iexact HO
  isplitl [Ha]; · iexact Ha
  isplitl [H0]; · iexact H0
  isplitl [H1]; · iexact H1
  isplitl [H2]; · iexact H2
  iexact H3

/-- What pipe `i` starts with: its places, the rights to its first transfer's two ends, and the credit for the
    neighbour's. -/
def pipeStuff (i : Fin 4) : sProp 𝕄 :=
  iprop((atPos ER (sndC c i 0) 0 ∅ 0 ∗ atPos ER (rcvC c i 1) 0 ∅ 0 ∗ atPos ER (sndC c i 1) 0 ∅ 0 ∗ atPos ER (rcvC c i 0) 0 ∅ 0 ∗ atPos ER (rdyC c i) 0 ∅ 0)
    ∗ dutyTok ER (sndC c i 0) 0 false ∗ dutyTok ER (rcvC (dst i c) i 1) 0 false ∗ cred (tallyAt (rcvC c i 1) 2 N))

/-- Pipe `i`'s first transfer. -/
theorem start_spec (i : Fin 4) (O : CellTallies nD τ sig ℕ) (Q : PUnit → sProp 𝕄) :
    iprop(records X W K ∗ pipeStuff c i ∗ slot c i 0 (val X W i 0 c) ∗ slotAny (dst i c) i 1 ∗ owing c (O + snd0T c i)
        ∗ ((PipeSt c i 0 ∗ owing c O) -∗ Q ⟨⟩))
      ⊢ runs c (send cM cc0_scratch1 cc0_scratch2 c i 0 1) Q := by
  unfold pipeStuff PipeSt places due snd0T
  rw [if_pos (by decide)]
  iintro ⟨#Hrec, ⟨⟨Ha0, Hb1, Ha1, Hb0, HaY⟩, HtS, HtR, HcR⟩, Hs, Hd, HO, Hk⟩
  iapply (send_spec X W K c i 0 1 0 0 2 (by decide) rfl O)
  isplitr; · iexact Hrec
  isplitl [Hs]; · iexact Hs
  isplitl [Hd]; · iexact Hd
  isplitr; · iapply (zero_rdy X W K c i); iexact Hrec
  isplitl [HO]; · iexact HO
  isplitl [HtS]; · iexact HtS
  isplitr; · iapply (zero_snd X W K c i 0); iexact Hrec
  isplitl [HtR]; · iexact HtR
  isplitr; · iapply (zero_rcv X W K (dst i c) i 1); iexact Hrec
  iintro ⟨HcS, HO⟩
  iapply Hk
  isplitr [HO]
  · isplitr [HcS HcR]
    · isplitl [Ha0]; · iexact Ha0
      isplitl [Hb1]; · iexact Hb1
      isplitl [Ha1]; · iexact Ha1
      isplitl [Hb0]; · iexact Hb0
      isplitr; · iapply (zero_snd X W K c i 1); iexact Hrec
      isplitr; · iapply (zero_rcv X W K c i 0); iexact Hrec
      iexact HaY
    · isplitl [HcS]; · iexact HcS
      iexact HcR
  · iexact HO

/-! ## The whole body -/

/-- What a device starts its run with, but for its buffers. -/
def starts : sProp 𝕄 :=
  iprop(barStuff c ∗ (pipeStuff c 0 ∗ pipeStuff c 1 ∗ pipeStuff c 2 ∗ pipeStuff c 3) ∗ bigSep (Finset.Ico 0 116) (stuff c))
/-- The communication buffer's eight slots. -/
def scratch : sProp 𝕄 := iprop(slots c 0 ∗ slots c 1 ∗ slots c 2 ∗ slots c 3)
/-- The places a device ends at. -/
def ends : sProp 𝕄 := iprop(atPos ER (barC c) 1 ∅ 0 ∗ places c 0 30 ∗ places c 1 30 ∗ places c 2 30 ∗ places c 3 30)

/-- The body: every device ends with the reduced result in its buffer, its slots, and nothing owed. -/
theorem body_spec (g : Vec F S2048x2048 .f32) (Q : PUnit → sProp 𝕄) :
    iprop(records X W K ∗ levAts L lv ∗ xwPts X W c ∗ owing c (O₀ c) ∗ starts c ∗ scratch c ∗ outPts c g
        ∗ ((xwPts X W c ∗ owing c 0 ∗ outPts c (outF X W c) ∗ scratch c ∗ ends c) -∗ Q ⟨⟩))
      ⊢ runs c (bodyOn xM wM oM cM cc0_scratch1 cc0_scratch2 cc0_scratch3 c) Q := by
  unfold bodyOn starts scratch slots
  simp only [runs_bind]
  iintro ⟨#Hrec, #Hlev, Hxw, HO, ⟨Hbar, ⟨P0, P1, P2, P3⟩, Hst⟩, ⟨⟨S0, T0⟩, ⟨S1, T1⟩, ⟨S2, T2⟩, ⟨S3, T3⟩⟩, Ho, Hk⟩
  iapply (meet_spec X W K c)
  isplitr; · iexact Hrec
  isplitr; · iexact Hlev
  isplitl [HO]; · iexact HO
  isplitl [Hbar]; · iexact Hbar
  isplitl [T0]; · iexact T0
  isplitl [T1]; · iexact T1
  isplitl [T2]; · iexact T2
  isplitl [T3]; · iexact T3
  iintro ⟨HO, HaB, T0, T1, T2, T3⟩
  iapply (chunk_spec X W c (pos c) _ _ _ _ (off1_eq c) (off2_eq c) g)
  isplitl [Hxw]; · iexact Hxw
  isplitl [Ho]; · iexact Ho
  iintro ⟨Hxw, Ho⟩
  have hg0 : Own X W c (comp c 0) (setRow (pos c) g (row X W c (pos c))) := (InvB.first X W c g).toOwn X W (by decide)
  generalize hg1 : setRow (pos c) g (row X W c (pos c)) = g1 at hg0 ⊢
  iapply (first_spec X W c 0 g1 hg0)
  isplitl [Ho]; · iexact Ho
  isplitl [S0]; · iexact S0
  iintro ⟨Ho, S0⟩
  iapply (first_spec X W c 1 g1 hg0)
  isplitl [Ho]; · iexact Ho
  isplitl [S1]; · iexact S1
  iintro ⟨Ho, S1⟩
  iapply (first_spec X W c 2 g1 hg0)
  isplitl [Ho]; · iexact Ho
  isplitl [S2]; · iexact S2
  iintro ⟨Ho, S2⟩
  iapply (first_spec X W c 3 g1 hg0)
  isplitl [Ho]; · iexact Ho
  isplitl [S3]; · iexact S3
  iintro ⟨Ho, S3⟩
  have hO : O₁ c = (((owedFrom c 0 + snd0T c 3) + snd0T c 2) + snd0T c 1) + snd0T c 0 := by
    unfold O₁; simp only [add_assoc]
  rw [hO]
  iapply (start_spec X W K c 0 (((owedFrom c 0 + snd0T c 3) + snd0T c 2) + snd0T c 1))
  isplitr; · iexact Hrec
  isplitl [P0]; · iexact P0
  isplitl [S0]; · iexact S0
  isplitl [T0]; · iexact T0
  isplitl [HO]; · iexact HO
  iintro ⟨P0, HO⟩
  iapply (start_spec X W K c 1 ((owedFrom c 0 + snd0T c 3) + snd0T c 2))
  isplitr; · iexact Hrec
  isplitl [P1]; · iexact P1
  isplitl [S1]; · iexact S1
  isplitl [T1]; · iexact T1
  isplitl [HO]; · iexact HO
  iintro ⟨P1, HO⟩
  iapply (start_spec X W K c 2 (owedFrom c 0 + snd0T c 3))
  isplitr; · iexact Hrec
  isplitl [P2]; · iexact P2
  isplitl [S2]; · iexact S2
  isplitl [T2]; · iexact T2
  isplitl [HO]; · iexact HO
  iintro ⟨P2, HO⟩
  iapply (start_spec X W K c 3 (owedFrom c 0))
  isplitr; · iexact Hrec
  isplitl [P3]; · iexact P3
  isplitl [S3]; · iexact S3
  isplitl [T3]; · iexact T3
  isplitl [HO]; · iexact HO
  iintro ⟨P3, HO⟩
  iapply (up_spec X W c 0 g1)
  isplitl [Hxw]; · iexact Hxw
  isplitl [Ho]; · iexact Ho
  iintro ⟨Hxw, Ho⟩
  iapply (down_spec X W c 0 _)
  isplitl [Hxw]; · iexact Hxw
  isplitl [Ho]; · iexact Ho
  iintro ⟨Hxw, Ho⟩
  have hg2 := ((hg0.set X W (plus_ c 1)).set X W (plus_ c 15)).mono X W (S' := comp c 1) fun j hj =>
    (comp_one c j hj).elim (fun h => .inl (.inl (.inl (by rw [h]; unfold fwd; omega)))) fun h => h.elim (fun h => .inl (.inr h)) .inr
  iapply (rounds_spec X W K c 30 (Nat.le_refl _))
  isplitr; · iexact Hrec
  isplitr; · iexact Hlev
  isplitl [Hxw]; · iexact Hxw
  isplitl [HO Hst Ho]
  · unfold St
    isplitl [HO]; · iexact HO
    isplitl [Hst]; · iexact Hst
    iexists _
    isplitr
    · ipureintro; exact hg2.toInv X W (k := 0) (by decide)
    · iexact Ho
  isplitl [P0 P1 P2 P3]
  · unfold pipes
    isplitl [P0]; · iexact P0
    isplitl [P1]; · iexact P1
    isplitl [P2] <;> iassumption
  iintro ⟨Hxw, HSt, HP⟩
  unfold St pipes
  simp only [PipeSt_end]
  icases HSt with ⟨HO, -, ⟨%g3, %hg3, Ho⟩⟩
  icases HP with ⟨⟨P0, S0⟩, ⟨P1, S1⟩, ⟨P2, S2⟩, ⟨P3, S3⟩⟩
  iapply Hk
  isplitl [Hxw]; · iexact Hxw
  isplitl [HO]; · rw [owedFrom_end c 120 (by decide)]; iexact HO
  isplitl [Ho]; · rw [← hg3.final X W]; iexact Ho
  isplitl [S0 S1 S2 S3]
  · isplitl [S0]; · iexact S0
    isplitl [S1]; · iexact S1
    isplitl [S2] <;> iassumption
  unfold ends
  isplitl [HaB]; · iexact HaB
  isplitl [P0]; · iexact P0
  isplitl [P1]; · iexact P1
  isplitl [P2] <;> iassumption

end Cert.RingProof

end
-- ==== Proof.Deal.lean ====
/-
What the devices start and end with.

The scratch buffer is its eight slots. Every device's semaphores start with their rounds, positions and duty tokens,
which are dealt to whoever pays them; and once a device has come to the end of all of its semaphores' rounds, every one
of its counters is at zero.
-/
module

public import proofs.«01_k».proof.Proof.Run
public import Idealize.ShloMosaic.Lib.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S2048x128 .f32) (W : Dev nD → Vec F S128x2048 .f32) (K : Dev nD × CK → ℕ) (c : Dev nD)

/-! ## Products over small index types -/

omit [FloatOps F] in
/-- Over two things. -/
theorem over_bool (Φ : Bool → sProp 𝕄) : bigSep Finset.univ Φ = iprop(Φ false ∗ Φ true) :=
  bigSep_univ_eq_bigSepL [false, true] (by decide) (by decide) Φ
omit [FloatOps F] in
/-- Over the two slots of a pipe. -/
theorem over_two (Φ : Fin 2 → sProp 𝕄) : bigSep Finset.univ Φ = iprop(Φ 0 ∗ Φ 1) :=
  bigSep_univ_eq_bigSepL [0, 1] (by decide) (by decide) Φ
omit [FloatOps F] in
/-- Over the pipes. -/
theorem over_pipes (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- Over a pipe's semaphores. -/
theorem over_roles (Φ : Role → sProp 𝕄) : bigSep Finset.univ Φ = iprop(Φ (.snd 0) ∗ Φ (.rcv 1) ∗ Φ (.snd 1) ∗ Φ (.rcv 0) ∗ Φ .rdy) :=
  bigSep_univ_eq_bigSepL [Role.snd 0, Role.rcv 1, Role.snd 1, Role.rcv 0, Role.rdy] (by decide) (by decide) Φ
omit [FloatOps F] in
/-- Over a device's semaphores: the barrier's, and the pipes'. -/
theorem over_cells (Φ : CK → sProp 𝕄) : bigSep Finset.univ Φ = iprop(Φ none ∗ bigSep Finset.univ fun k => Φ (some k)) := by
  have h : (Finset.univ : Finset CK) = insert none (Finset.univ.map Function.Embedding.some) := by decide
  rw [h, bigSep_insert (by simp), bigSep_map]; rfl
omit [FloatOps F] in
/-- The same, one by one. -/
theorem cells_eq (Φ : CK → sProp 𝕄) : bigSep Finset.univ Φ = iprop(Φ none ∗ bigSep Finset.univ fun i : Fin 4 =>
    iprop(Φ (some (i, .snd 0)) ∗ Φ (some (i, .rcv 1)) ∗ Φ (some (i, .snd 1)) ∗ Φ (some (i, .rcv 0)) ∗ Φ (some (i, .rdy)))) := by
  rw [over_cells, bigSep_univ_prod]; simp only [over_roles]
omit [FloatOps F] in
/-- Over the steps. -/
theorem over_steps (Φ : ℕ → sProp 𝕄) : (bigSep Finset.univ fun k : Fin 116 => Φ k.val) = bigSep (Finset.Ico 0 116) Φ := by
  have h : Finset.Ico 0 116 = (Finset.univ : Finset (Fin 116)).map Fin.valEmbedding := by
    rw [Fin.map_valEmbedding_univ]; ext x; simp
  rw [h, bigSep_map]; rfl
omit [FloatOps F] in
/-- What holds for good may be used at every index. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## The scratch buffer's slots -/

/-- The elements of one slot. -/
def slotSet (p : Fin 4 × Fin 2) : Finset (Idx ((c : Thread nD τ).loc cc0_scratch0)) := (slotM cM p.1 p.2).view.set

/-- An element is in a slot if it has the slot's pipe and parity. -/
theorem mem_slotSet (p : Fin 4 × Fin 2) (x : S4x2x128x512.Idx) : x ∈ slotSet c p ↔ (x 0).val = p.1.val ∧ (x 1).val = p.2.val := by
  have h : slotSet c p = (slotR p.1 p.2).set := by
    unfold slotSet
    exact (View.set_reshape _ _).trans (View.set_slice_whole _ _)
  rw [h, slotR, Rect.mem_set_unit]
  constructor
  · intro h
    have h0 := h 0; have h1 := h 1
    dsimp [S1x1x128x512] at h0 h1
    omega
  · rintro ⟨h0, h1⟩ a
    have hl := (x a).isLt
    fin_cases a <;> dsimp [S1x1x128x512, S4x2x128x512] at hl ⊢ <;> omega

/-- Two slots share no element. -/
theorem slots_apart (p q : Fin 4 × Fin 2) (h : p ≠ q) : Disjoint (slotSet c p) (slotSet c q) :=
  Finset.disjoint_left.mpr fun x hp hq => h (by
    rw [mem_slotSet] at hp hq
    exact Prod.ext (Fin.ext (hp.1.symm.trans hq.1)) (Fin.ext (hp.2.symm.trans hq.2)))
/-- The slots are the whole scratch buffer. -/
theorem slots_cover : Finset.univ.biUnion (slotSet c) = Finset.univ :=
  Finset.eq_univ_iff_forall.mpr fun x => Finset.mem_biUnion.mpr
    ⟨(⟨(x 0).val, (x 0).isLt⟩, ⟨(x 1).val, (x 1).isLt⟩), Finset.mem_univ _, (mem_slotSet c _ x).mpr ⟨rfl, rfl⟩⟩

omit [FloatOps F] in
/-- The eight slots, listed, are the slots over their two indices. -/
theorem scratch_eq : scratch (F := F) c = bigSep Finset.univ fun p : Fin 4 × Fin 2 => slotAny c p.1 p.2 := by
  rw [bigSep_univ_prod, over_pipes]; simp only [over_two]; rfl

omit [FloatOps F] in
/-- The scratch buffer, held whole, is its slots; -/
theorem scratch_split (f : Buf (Elt F) ((c : Thread nD τ).loc cc0_scratch0)) : (((c : Thread nD τ).loc cc0_scratch0) ↦{fullShare} f : sProp 𝕄) ⊢ scratch c := by
  rw [scratch_eq]
  refine (Entails.of_eq (Ring.pointsTo_blocks (slotSet c) (fun p q h => slots_apart c p q h) (slots_cover c) f)).trans ?_
  refine bigSep_mono fun p _ => ?_
  show slotPts c p.1 p.2 f ⊢ slotAny c p.1 p.2
  unfold slotAny
  iintro H; iexists f; iexact H
/-- and the slots, whatever they hold, are the scratch buffer again. -/
theorem scratch_join (f₀ : Buf (Elt F) ((c : Thread nD τ).loc cc0_scratch0)) : scratch c ⊢ (iprop(∃ f, ((c : Thread nD τ).loc cc0_scratch0) ↦{fullShare} f) : sProp 𝕄) := by
  rw [scratch_eq]
  exact Ring.pointsTo_blocks_join_exists (slotSet c) (fun p q h => slots_apart c p q h) (slots_cover c) f₀

/-! ## The end of the rounds -/

/-- How many rounds a semaphore goes through. -/
def endK : CK → ℕ
  | none => 1
  | some (_, .rdy) => 29
  | some (_, .snd _) => 15
  | some (_, .rcv _) => 15

omit [FloatOps F] in
/-- After the run every semaphore's rounds are all done. -/
theorem ends_at : ends (F := F) c ⊢ bigSep Finset.univ fun k => atPos ER (cellAt c k) (endK k) ∅ 0 := by
  have h (i : Fin 4) : places (F := F) c i 30 ⊢ iprop(atPos ER (cellAt c (some (i, .snd 0))) 15 ∅ 0 ∗ atPos ER (cellAt c (some (i, .rcv 1))) 15 ∅ 0
      ∗ atPos ER (cellAt c (some (i, .snd 1))) 15 ∅ 0 ∗ atPos ER (cellAt c (some (i, .rcv 0))) 15 ∅ 0 ∗ atPos ER (cellAt c (some (i, .rdy))) 29 ∅ 0) := by
    unfold places
    iintro ⟨H1, H2, H3, H4, -, -, H5⟩
    isplitl [H1]; · iexact H1
    isplitl [H2]; · iexact H2
    isplitl [H3]; · iexact H3
    isplitl [H4]; · iexact H4
    iexact H5
  rw [cells_eq, over_pipes]
  unfold ends
  exact BIClass.sep_mono (BI.Entails.refl _) (BIClass.sep_mono (h 0) (BIClass.sep_mono (h 1) (BIClass.sep_mono (h 2) (h 3))))

/-- At the end every counter of a device is at zero. -/
theorem ends_zero : iprop(records X W K ∗ ends c) ⊢ |={Set.univ}=> (bigSep Finset.univ fun k => semVal (cellAt c k) 0 : sProp 𝕄) := by
  refine (BIClass.sep_mono (BI.Entails.refl _) (ends_at c)).trans ?_
  refine (bigSep_using (Ψ := fun k => iprop(|={Set.univ}=> semVal (cellAt c k) 0)) fun k _ => ?_).trans (bigSep_fupd _ _)
  iintro ⟨#HI, Hat⟩
  imod (Rounds.cell_close ER (ringRd X W) (Set.mem_univ (K (c, k))) (fun h => h) (R := endK k)
    (duties_end X W c k (endK k) (by rcases k with _ | ⟨_, _ | _ | _⟩ <;> exact Nat.le_refl _))) $$ [Hat] with Hz
  · isplitr; · iapply (records_inv X W K c k); iexact HI
    iexact Hat
  imodintro; iexact Hz

/-! ## The tokens -/

/-- Which duty tokens a semaphore's device starts from: the barrier's two, the first transfer's on each pipe, and each
    step's ready signal and transfer. -/
abbrev Tok : Type := Bool ⊕ Fin 4 ⊕ Fin 4 ⊕ Fin 116 ⊕ Fin 116 ⊕ Fin 116

/-- The semaphore, the round and the duty of each. -/
def tok : Tok → CK × ℕ × Bool
  | .inl d => (none, 0, d)
  | .inr (.inl i) => (some (i, .snd 0), 0, false)
  | .inr (.inr (.inl i)) => (some (i, .rcv 1), 0, false)
  | .inr (.inr (.inr (.inl k))) => (some (pipe k, .rdy), k.val / 4, false)
  | .inr (.inr (.inr (.inr (.inl k)))) => (some (pipe k, .snd (par (k.val / 4 + 1))), (k.val / 4 + 1) / 2, false)
  | .inr (.inr (.inr (.inr (.inr k)))) => (some (pipe k, .rcv (par (k.val / 4))), (k.val / 4 + 1) / 2, false)

/-- No right is dealt twice. -/
theorem tok_inj : Function.Injective tok := by
  rintro (d | i | i | k | k | k) (d' | i' | i' | k' | k' | k') h <;>
    simp only [tok, Prod.mk.injEq, Option.some.injEq, Role.snd.injEq, Role.rcv.injEq, pipe, par, Fin.ext_iff, reduceCtorEq, and_false, false_and] at h <;>
    first
      | exact congrArg Sum.inl h.2.2
      | (exfalso; have h' := h; simp at h'; omega)
      | (simp only [Sum.inr.injEq, Sum.inl.injEq, Fin.ext_iff]; omega)

/-- The tokens of device `c`'s own semaphores. -/
def toks : sProp 𝕄 := bigSep Finset.univ fun j : Tok => dutyTok ER (cellAt c (tok j).1) (tok j).2.1 (tok j).2.2

/-- The tokens of the duties device `c` pays. -/
def pays : sProp 𝕄 :=
  iprop((dutyTok ER (barC (rgt c)) 0 false ∗ dutyTok ER (barC (lft c)) 0 true)
    ∗ (bigSep Finset.univ fun i : Fin 4 => dutyTok ER (sndC c i 0) 0 false)
    ∗ (bigSep Finset.univ fun i : Fin 4 => dutyTok ER (rcvC (dst i c) i 1) 0 false)
    ∗ (bigSep Finset.univ fun k : Fin 116 => dutyTok ER (rdyC (src (pipe k) c) (pipe k)) (k.val / 4) false)
    ∗ (bigSep Finset.univ fun k : Fin 116 => dutyTok ER (sndC c (pipe k) (par (k.val / 4 + 1))) ((k.val / 4 + 1) / 2) false)
    ∗ (bigSep Finset.univ fun k : Fin 116 => dutyTok ER (rcvC (dst (pipe k) c) (pipe k) (par (k.val / 4))) ((k.val / 4 + 1) / 2) false))

omit [FloatOps F] in
/-- A device's rights, one kind at a time. -/
theorem toks_eq : toks (F := F) c =
  iprop((dutyTok ER (barC c) 0 false ∗ dutyTok ER (barC c) 0 true)
    ∗ (bigSep Finset.univ fun i : Fin 4 => dutyTok ER (sndC c i 0) 0 false)
    ∗ (bigSep Finset.univ fun i : Fin 4 => dutyTok ER (rcvC c i 1) 0 false)
    ∗ (bigSep Finset.univ fun k : Fin 116 => dutyTok ER (rdyC c (pipe k)) (k.val / 4) false)
    ∗ (bigSep Finset.univ fun k : Fin 116 => dutyTok ER (sndC c (pipe k) (par (k.val / 4 + 1))) ((k.val / 4 + 1) / 2) false)
    ∗ (bigSep Finset.univ fun k : Fin 116 => dutyTok ER (rcvC c (pipe k) (par (k.val / 4))) ((k.val / 4 + 1) / 2) false)) := by
  unfold toks
  rw [bigSep_univ_sum, bigSep_univ_sum, bigSep_univ_sum, bigSep_univ_sum, bigSep_univ_sum, over_bool]; rfl

/-- The devices, each followed by the one its pipe `i` sends to. -/
def along (i : Fin 4) : Dev nD ≃ Dev nD := ⟨dst i, src i, src_dst i, dst_src i⟩
/-- The devices, each followed by its right neighbour. -/
def turn : Dev nD ≃ Dev nD := ⟨rgt, lft, lft_rgt, rgt_lft⟩

omit [FloatOps F] in
/-- One token of every device, passed on along some order of the devices. -/
theorem pass_on (e : Dev nD ≃ Dev nD) (Φ : Dev nD → sProp 𝕄) : bigSep Finset.univ Φ ⊢ bigSep Finset.univ fun c => Φ (e c) :=
  Entails.of_eq (bigSep_univ_equiv e Φ)
omit [FloatOps F] in
/-- Several, each along its own order. -/
theorem pass_each {J : Type} [Fintype J] [DecidableEq J] (e : J → Dev nD ≃ Dev nD) (Φ : J → Dev nD → sProp 𝕄) :
    (bigSep Finset.univ fun c => bigSep Finset.univ fun j => Φ j c) ⊢ bigSep Finset.univ fun c => bigSep Finset.univ fun j => Φ j (e j c) := by
  have h (Ψ : J → Dev nD → sProp 𝕄) : (bigSep Finset.univ fun c => bigSep Finset.univ fun j => Ψ j c) = bigSep Finset.univ fun j => bigSep Finset.univ fun c => Ψ j c := by
    rw [← bigSep_univ_prod (fun p : Dev nD × J => Ψ p.2 p.1), ← bigSep_univ_prod (fun p : J × Dev nD => Ψ p.1 p.2), bigSep_univ_equiv (Equiv.prodComm (Dev nD) J)]; rfl
  rw [h, h fun j c => Φ j (e j c)]
  exact bigSep_mono fun j _ => pass_on (e j) (Φ j)

omit [FloatOps F] in
/-- Every token goes to the device that pays its duty. -/
theorem toks_dealt : (bigSep Finset.univ fun c : Dev nD => toks (F := F) c) ⊢ bigSep Finset.univ fun c : Dev nD => pays c := by
  simp only [toks_eq]
  unfold pays
  simp only [bigSep_sep']
  refine BIClass.sep_mono (BIClass.sep_mono ?_ ?_) (BIClass.sep_mono (BI.Entails.refl _) (BIClass.sep_mono ?_ (BIClass.sep_mono ?_ (BIClass.sep_mono (BI.Entails.refl _) ?_))))
  · exact pass_on turn fun c => dutyTok ER (barC c) 0 false
  · exact pass_on turn.symm fun c => dutyTok ER (barC c) 0 true
  · exact pass_each along fun i c => dutyTok ER (rcvC c i 1) 0 false
  · exact pass_each (fun k : Fin 116 => (along (pipe k)).symm) fun k c => dutyTok ER (rdyC c (pipe k)) (k.val / 4) false
  · exact pass_each (fun k : Fin 116 => along (pipe k)) fun k c => dutyTok ER (rcvC c (pipe k) (par (k.val / 4))) ((k.val / 4 + 1) / 2) false

end Cert.RingProof

end
-- ==== Proof.Launch.lean ====
/-
The whole run.

The devices are dealt their semaphores' rounds, positions and duty tokens and the credit of what they are owed, run the
body proved before, and end with the sum of every device's product in the result and every counter at zero.
-/
module

public import proofs.«01_k».proof.Proof.Deal
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ
local notation "𝔼" => TpuEff nD τ sig (Elt F) Λ₀ Proc.tc

variable (m : (ℓ : Loc nD τ sig) → Buf (Elt F) ℓ) (ρ : Dev nD → PrngReg)

/-- The initial state: memory at `m`, every counter at zero. -/
def s₀ : MemSt nD τ sig (Elt F) := ⟨m, fun _ => 0, ρ⟩

/-- Each device's block of `x`. -/
def xOf (c : Dev nD) : Vec F S2048x128 .f32 := m ((c : Thread nD τ).loc main_arg0)
/-- Each device's block of `w`. -/
def wOf (c : Dev nD) : Vec F S128x2048 .f32 := m ((c : Thread nD τ).loc main_arg1)

/-! ## What the launch deals -/

/-- No semaphore is counted twice. -/
theorem cells_apart : Function.Injective fun p : Dev nD × CK => cellAt p.1 p.2 := by
  rintro ⟨c, k⟩ ⟨c', k'⟩ h
  have h1 : c = c' := congrArg (fun g : GSem nD τ sig => g.1.1) h
  have h2 : k = k' := csem_inj (congrArg (fun g : GSem nD τ sig => g.2) h)
  rw [h1, h2]
/-- Every device's semaphores. -/
def ringCells : Finset (GSem nD τ sig) := Finset.univ.map ⟨_, cells_apart⟩

/-- No right of any device is dealt twice. -/
theorem toks_apart : Function.Injective fun p : Dev nD × Tok => (cellAt p.1 (tok p.2).1, (tok p.2).2.1, (tok p.2).2.2) := by
  rintro ⟨c, j⟩ ⟨c', j'⟩ h
  have h0 := @cells_apart (c, (tok j).1) (c', (tok j').1) (congrArg Prod.fst h)
  have h1 : c = c' := congrArg Prod.fst h0
  have h2 : j = j' := tok_inj (Prod.ext (congrArg Prod.snd h0) (congrArg (fun x : GSem nD τ sig × ℕ × Bool => x.2) h))
  rw [h1, h2]
/-- Every device's tokens. -/
def ringToks : Finset (GSem nD τ sig × ℕ × Bool) := Finset.univ.map ⟨_, toks_apart⟩

/-- What the run starts from besides memory: the staging buffers' rounds and the ring's. -/
def u₀ : UU :=
  (initOf (Pipeline.cells cfgs cellOf_inj) (Pipeline.launchToks cfgs cellOf_inj), initOf ringCells ringToks)

/-- A device's part of it. -/
def part (c : Dev nD) : sProp 𝕄 :=
  iprop((bigSep Finset.univ fun k => roundState ER (ringRd (xOf m) (wOf m)) (cellAt c k) 0)
    ∗ ((bigSep Finset.univ fun k => atPos ER (cellAt c k) 0 ∅ 0) ∗ bigSep Finset.univ fun k => reached ER (cellAt c k) 0) ∗ toks c)

/-- A device's positions and the tokens of the duties it pays. -/
def held (c : Dev nD) : sProp 𝕄 := iprop((bigSep Finset.univ fun k => atPos ER (cellAt c k) 0 ∅ 0) ∗ pays c)

/-- What it starts its run with: the semaphores' records, under some names, and these. -/
def given (c : Dev nD) : sProp 𝕄 := iprop(∃ K, records (xOf m) (wOf m) K ∗ held c)

omit [FloatOps F] in
/-- What is held of every semaphore, device by device. -/
theorem over_devs (Φ : GSem nD τ sig → sProp 𝕄) : bigSep ringCells Φ = bigSep Finset.univ fun c : Dev nD => bigSep Finset.univ fun k => Φ (cellAt c k) := by
  unfold ringCells; rw [bigSep_map, bigSep_univ_prod]; rfl
omit [FloatOps F] in
/-- The rights, device by device. -/
theorem over_toks : bigSep ringToks (fun x => (dutyTok ER x.1 x.2.1 x.2.2 : sProp 𝕄)) = bigSep Finset.univ fun c : Dev nD => toks c := by
  unfold ringToks; rw [bigSep_map, bigSep_univ_prod]; rfl

/-- The ring's start is every device's part. -/
theorem fund_ring : BI.own (ER (initOf ringCells ringToks)) ⊢ (|==> bigSep Finset.univ (part m) : sProp 𝕄) := by
  iintro H
  imod (Rounds.fund ER (ringRd (xOf m) (wOf m)) ringCells ringToks) $$ H with ⟨Hst, Hr, Hat, Htok⟩
  imodintro
  ihave Hst' := (Entails.of_eq (over_devs fun g => roundState ER (ringRd (xOf m) (wOf m)) g 0)) $$ Hst
  ihave Hat' := (Entails.of_eq (over_devs (F := F) fun g => atPos ER g 0 ∅ 0)) $$ Hat
  ihave Hr' := (Entails.of_eq (over_devs (F := F) fun g => reached ER g 0)) $$ Hr
  ihave Htok' := (Entails.of_eq (over_toks (F := F))) $$ Htok
  unfold part; simp only [bigSep_sep']
  isplitl [Hst']; · iexact Hst'
  isplitl [Hat' Hr']
  · isplitl [Hat']; · iexact Hat'
    iexact Hr'
  iexact Htok'

omit [FloatOps F] in
/-- The counters a device starts with are its semaphores'. -/
theorem counters_eq (c : Dev nD) :
    iprop(unscopedSems0 c ∗ Pipeline.ownSems0 (Ix := ℕ) (Name := ℕ) (U := UU) (Lvl := ℕ) (Val := Elt F) (τ := τ) osem c)
      = (bigSep Finset.univ fun k => semVal (cellAt c k) 0 : sProp 𝕄) := by
  rw [over_cells]
  unfold unscopedSems0
  rw [bigSep_eq_bigSepL_of_eq [SemLoc.reg barS] (by decide) (by decide)]; rfl

/-- Each device's cells are set up. -/
theorem set_up (c : Dev nD) :
    iprop(Pipeline.ownSems0 (Ix := ℕ) (Name := ℕ) (U := UU) (Lvl := ℕ) (Val := Elt F) (τ := τ) osem c ∗ unscopedSems0 c ∗ part m c)
      ⊢ |={Set.univ}=> iprop((bigSep Finset.univ fun k => iprop(∃ κ : ℕ, cellInv ER (ringRd (xOf m) (wOf m)) κ (cellAt c k)))
          ∗ ((bigSep Finset.univ fun k => atPos ER (cellAt c k) 0 ∅ 0) ∗ bigSep Finset.univ fun k => reached ER (cellAt c k) 0) ∗ toks c) := by
  unfold part
  iintro ⟨Hos, Hus, Hst, Hat, Htok⟩
  ihave Hv := (Entails.of_eq (counters_eq (F := F) c)) $$ [Hos Hus]
  · isplitl [Hus] <;> iassumption
  imod (show iprop((bigSep Finset.univ fun k => semVal (cellAt c k) 0) ∗ bigSep Finset.univ fun k => roundState ER (ringRd (xOf m) (wOf m)) (cellAt c k) 0)
      ⊢ (|={Set.univ}=> bigSep Finset.univ fun k => iprop(∃ κ : ℕ, cellInv ER (ringRd (xOf m) (wOf m)) κ (cellAt c k)) : sProp 𝕄) from by
        rw [← bigSep_sep']
        exact (bigSep_mono fun k _ => (Rounds.body_intro ER (ringRd (xOf m) (wOf m)) (cellAt c k)).trans inv_alloc).trans (bigSep_fupd _ _)) $$ [Hv Hst] with Hinv
  · isplitl [Hv] <;> iassumption
  imodintro
  isplitl [Hinv]; · iexact Hinv
  isplitl [Hat]; · iexact Hat
  iexact Htok

/-- The records are shared and the tokens dealt. -/
theorem share_out :
    (bigSep Finset.univ fun c : Dev nD => iprop((bigSep Finset.univ fun k => iprop(∃ κ : ℕ, cellInv ER (ringRd (xOf m) (wOf m)) κ (cellAt c k)))
          ∗ ((bigSep Finset.univ fun k => atPos ER (cellAt c k) 0 ∅ 0) ∗ bigSep Finset.univ fun k => reached ER (cellAt c k) 0) ∗ toks c) : sProp 𝕄)
      ⊢ bigSep Finset.univ (given m) := by
  simp only [bigSep_sep']
  rw [← bigSep_univ_prod (fun p : Dev nD × CK => iprop(∃ κ : ℕ, cellInv ER (ringRd (xOf m) (wOf m)) κ (cellAt p.1 p.2))),
    ← bigSep_univ_prod (fun p : Dev nD × CK => (reached ER (cellAt p.1 p.2) 0 : sProp 𝕄))]
  iintro ⟨HI, ⟨Hat, #HR⟩, Htok⟩
  ihave HK := (BI.bigSep_exists_pi Finset.univ (fun (p : Dev nD × CK) (κ : ℕ) => (cellInv ER (ringRd (xOf m) (wOf m)) κ (cellAt p.1 p.2) : sProp 𝕄))) $$ HI
  icases HK with ⟨%K, #HI⟩
  ihave Htk := (toks_dealt (F := F)) $$ Htok
  iapply (bigSep_using (R := records (xOf m) (wOf m) K) (Φ := held) (Ψ := given m) fun c _ => by
    unfold given; iintro ⟨#H, H'⟩; iexists K
    isplitr; · iexact H
    iexact H')
  isplitr
  · unfold records; isplitl; · iexact HI
    iexact HR
  · unfold held; simp only [bigSep_sep']
    isplitl [Hat]; · iexact Hat
    iexact Htk

/-- So every device is given what it starts with. -/
theorem glob : (bigSep Finset.univ fun c => iprop(Pipeline.ownSems0 (Ix := ℕ) (Name := ℕ) (U := UU) (Lvl := ℕ) (Val := Elt F) (τ := τ) osem c ∗ unscopedSems0 c ∗ part m c) : sProp 𝕄)
    ⊢ |={Set.univ}=> bigSep Finset.univ (given m) :=
  ((bigSep_mono fun c _ => set_up m c).trans (bigSep_fupd _ _)).trans (BI.fupd_mono (share_out m))

/-! ## The credit -/

/-- What device `c` is owed. -/
def credits (c : Dev nD) : sProp 𝕄 :=
  iprop((((bigSep (Finset.Ico 0 116) fun k => iprop(cred (tallyAt (rdyC c (pipe k)) (3 + 2 * k) 1) ∗ cred (tallyAt (rcvC c (pipe k) (par (k / 4))) (4 + 2 * k) N)))
      ∗ ((cred (tallyAt (rcvC c 3 1) 2 N) ∗ cred (tallyAt (rcvC c 2 1) 2 N)) ∗ cred (tallyAt (rcvC c 1 1) 2 N)) ∗ cred (tallyAt (rcvC c 0 1) 2 N))
    ∗ cred (tallyAt (barC c) 1 1)) ∗ cred (tallyAt (barC c) 1 1))

omit [FloatOps F] in
/-- The first transfer into a pipe's slot is owed by the device before. -/
theorem credit_first (c : Dev nD) (i : Fin 4) : (Pipeline.launchCred (fun d => snd0T d i) c : sProp 𝕄) ⊢ cred (tallyAt (rcvC c i 1) 2 N) :=
  Pipeline.launchCred_tallyAt (.dma (semAt cc0_scratch2 i 1)) (dst i) (src i) (dst_src i) (src_dst i) 2 N c
omit [FloatOps F] in
/-- A step's ready signal by the device after; -/
theorem credit_rdy (c : Dev nD) (k : ℕ) : (Pipeline.launchCred (fun d => rdyT d k) c : sProp 𝕄) ⊢ cred (tallyAt (rdyC c (pipe k)) (3 + 2 * k) 1) :=
  Pipeline.launchCred_tallyAt (.reg (rdyAt cc0_scratch3 (pipe k))) (src (pipe k)) (dst (pipe k)) (src_dst _) (dst_src _) _ _ c
omit [FloatOps F] in
/-- its transfer by the device before; -/
theorem credit_rcv (c : Dev nD) (k : ℕ) : (Pipeline.launchCred (fun d => sndT d k) c : sProp 𝕄) ⊢ cred (tallyAt (rcvC c (pipe k) (par (k / 4))) (4 + 2 * k) N) :=
  Pipeline.launchCred_tallyAt (.dma (semAt cc0_scratch2 (pipe k) (par (k / 4)))) (dst (pipe k)) (src (pipe k)) (dst_src _) (src_dst _) _ _ c
omit [FloatOps F] in
/-- so all steps' by them. -/
theorem credit_steps (c : Dev nD) : (Pipeline.launchCred (fun d => owedFrom d 0) c : sProp 𝕄)
    ⊢ bigSep (Finset.Ico 0 116) fun k => iprop(cred (tallyAt (rdyC c (pipe k)) (3 + 2 * k) 1) ∗ cred (tallyAt (rcvC c (pipe k) (par (k / 4))) (4 + 2 * k) N)) :=
  (Entails.of_eq (Pipeline.launchCred_sum (Finset.Ico 0 116) (fun k d => rdyT d k + sndT d k) c)).trans (bigSep_mono fun k _ =>
    (Entails.of_eq (Pipeline.launchCred_add (fun d => rdyT d k) (fun d => sndT d k) c)).trans (BIClass.sep_mono (credit_rdy c k) (credit_rcv c k)))
omit [FloatOps F] in
/-- One of the barrier's two units is owed by the left neighbour. -/
theorem credit_lft (c : Dev nD) : (Pipeline.launchCred (fun d => tallyAt (barC (rgt d)) 1 1) c : sProp 𝕄) ⊢ cred (tallyAt (barC c) 1 1) :=
  Pipeline.launchCred_tallyAt (.reg barS) rgt lft rgt_lft lft_rgt 1 1 c
omit [FloatOps F] in
/-- The other one is owed by the right neighbour. -/
theorem credit_rgt (c : Dev nD) : (Pipeline.launchCred (fun d => tallyAt (barC (lft d)) 1 1) c : sProp 𝕄) ⊢ cred (tallyAt (barC c) 1 1) :=
  Pipeline.launchCred_tallyAt (.reg barS) lft rgt lft_rgt rgt_lft 1 1 c

omit [FloatOps F] in
/-- The launch's credit is what the other devices owe it. -/
theorem credits_intro (c : Dev nD) : (Pipeline.launchCred O₀ c : sProp 𝕄) ⊢ credits c := by
  unfold O₀ credits
  rw [Pipeline.launchCred_add (fun d => (owedFrom d 0 + (((snd0T d 3 + snd0T d 2) + snd0T d 1) + snd0T d 0)) + tallyAt (barC (rgt d)) 1 1) (fun d => tallyAt (barC (lft d)) 1 1),
    Pipeline.launchCred_add (fun d => owedFrom d 0 + (((snd0T d 3 + snd0T d 2) + snd0T d 1) + snd0T d 0)) (fun d => tallyAt (barC (rgt d)) 1 1),
    Pipeline.launchCred_add (fun d => owedFrom d 0) (fun d => ((snd0T d 3 + snd0T d 2) + snd0T d 1) + snd0T d 0),
    Pipeline.launchCred_add (fun d => (snd0T d 3 + snd0T d 2) + snd0T d 1) (fun d => snd0T d 0),
    Pipeline.launchCred_add (fun d => snd0T d 3 + snd0T d 2) (fun d => snd0T d 1),
    Pipeline.launchCred_add (fun d => snd0T d 3) (fun d => snd0T d 2)]
  exact BIClass.sep_mono (BIClass.sep_mono (BIClass.sep_mono (credit_steps c) (BIClass.sep_mono (BIClass.sep_mono (BIClass.sep_mono (credit_first c 3) (credit_first c 2)) (credit_first c 1))
    (credit_first c 0))) (credit_lft c)) (credit_rgt c)

omit [FloatOps F] in
/-- Positions, tokens and credit are what the body starts from. -/
theorem starts_intro (c : Dev nD) : iprop(held c ∗ credits c) ⊢ starts (F := F) c := by
  unfold held credits pays
  rw [cells_eq, over_pipes, over_pipes, over_pipes, over_steps (fun k => dutyTok ER (rdyC (src (pipe k) c) (pipe k)) (k / 4) false),
    over_steps (fun k => dutyTok ER (sndC c (pipe k) (par (k / 4 + 1))) ((k / 4 + 1) / 2) false),
    over_steps (fun k => dutyTok ER (rcvC (dst (pipe k) c) (pipe k) (par (k / 4))) ((k / 4 + 1) / 2) false)]
  unfold starts barStuff pipeStuff
  rw [show stuff (F := F) c = fun k => iprop(dutyTok ER (rdyC (src (pipe k) c) (pipe k)) (k / 4) false
      ∗ dutyTok ER (sndC c (pipe k) (par (k / 4 + 1))) ((k / 4 + 1) / 2) false
      ∗ dutyTok ER (rcvC (dst (pipe k) c) (pipe k) (par (k / 4))) ((k / 4 + 1) / 2) false
      ∗ cred (tallyAt (rdyC c (pipe k)) (3 + 2 * k) 1) ∗ cred (tallyAt (rcvC c (pipe k) (par (k / 4))) (4 + 2 * k) N)) from rfl]
  simp only [bigSep_sep']
  iintro ⟨⟨⟨Pb, P0, P1, P2, P3⟩, ⟨Tr, Tl⟩, ⟨S0, S1, S2, S3⟩, ⟨R0, R1, R2, R3⟩, Trdy, Tsnd, Trcv⟩, ⟨⟨⟨Crdy, Crcv⟩, ⟨⟨C3, C2⟩, C1⟩, C0⟩, B1⟩, B2⟩
  isplitl [Pb Tr Tl B1 B2]
  · isplitl [Tl]; · iexact Tl
    isplitl [Tr]; · iexact Tr
    isplitl [B1]; · iexact B1
    isplitl [B2]; · iexact B2
    iexact Pb
  isplitl [P0 P1 P2 P3 S0 S1 S2 S3 R0 R1 R2 R3 C0 C1 C2 C3]
  · isplitl [P0 S0 R0 C0]
    · isplitl [P0]; · iexact P0
      isplitl [S0]; · iexact S0
      isplitl [R0]; · iexact R0
      iexact C0
    isplitl [P1 S1 R1 C1]
    · isplitl [P1]; · iexact P1
      isplitl [S1]; · iexact S1
      isplitl [R1]; · iexact R1
      iexact C1
    isplitl [P2 S2 R2 C2]
    · isplitl [P2]; · iexact P2
      isplitl [S2]; · iexact S2
      isplitl [R2]; · iexact R2
      iexact C2
    isplitl [P3]; · iexact P3
    isplitl [S3]; · iexact S3
    isplitl [R3]; · iexact R3
    iexact C3
  isplitl [Trdy]; · iexact Trdy
  isplitl [Tsnd]; · iexact Tsnd
  isplitl [Trcv]; · iexact Trcv
  isplitl [Crdy]; · iexact Crdy
  iexact Crcv

/-! ## The call -/

/-- What a device brings to the call besides its buffers. -/
def start (c : Dev nD) : sProp 𝕄 := iprop(given m c ∗ credits c ∗ levAts L lv)
/-- The scratch buffer, whatever it holds. -/
def scratchAny (c : Dev nD) : sProp 𝕄 := iprop(∃ f : Buf (Elt F) ((c : Thread nD τ).loc cc0_scratch0), ((c : Thread nD τ).loc cc0_scratch0) ↦{fullShare} f)
/-- What the body is entered with. -/
def before₀ (c : Dev nD) : sProp 𝕄 := iprop(start m c ∗ scratchAny c)
/-- What the body leaves: the scratch buffer, and every counter at zero. -/
def after₀ (c : Dev nD) : sProp 𝕄 := iprop(scratchAny (F := F) c ∗ bigSep Finset.univ fun k => semVal (cellAt c k) 0)

/-- The call's data: the arrays as found, what each staging buffer holds after the body, and what is owed around it. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xOf m c
    | ⟨1, _⟩ => wOf m c
    | ⟨2, _⟩ => outF (xOf m) (wOf m) c
  Φ t := match t with
    | ⟨0, _⟩ => before₀ m c
    | ⟨_ + 1, _⟩ => after₀ c
  q _ := fullShare
  owed t := match t with
    | ⟨0, _⟩ => O₀ c
    | ⟨_ + 1, _⟩ => 0

omit [FloatOps F] in
/-- The one block of an array is the array. -/
theorem block_x (c : Dev nD) : (win0_0.blk t0_0).view.read (Elt F) ((s₀ m ρ).mem ((c : Thread nD τ).loc main_arg0)) = xOf m c :=
  Memref.read_access_unit_zero (Elt F) main_arg0 (off := fun a => (win0_0.index t0_0) a * main_arg0.ty.shape.size a)
    (funext fun a => by fin_cases a <;> rfl) (fun a => by fin_cases a <;> decide) _
omit [FloatOps F] in
/-- The same of `w`; -/
theorem block_w (c : Dev nD) : (win0_1.blk t0_0).view.read (Elt F) ((s₀ m ρ).mem ((c : Thread nD τ).loc main_arg1)) = wOf m c :=
  Memref.read_access_unit_zero (Elt F) main_arg1 (off := fun a => (win0_1.index t0_0) a * main_arg1.ty.shape.size a)
    (funext fun a => by fin_cases a <;> rfl) (fun a => by fin_cases a <;> decide) _
omit [FloatOps F] in
/-- and of the result. -/
theorem block_o (f : (main_v1 : Ref sig .tc).ty.Contents (Elt F)) : (win0_2.blk t0_0).view.read (Elt F) f = f :=
  Memref.read_access_unit_zero (Elt F) main_v1 (off := fun a => (win0_2.index t0_0) a * main_v1.ty.shape.size a)
    (funext fun a => by fin_cases a <;> rfl) (fun a => by fin_cases a <;> decide) f

omit [FloatOps F] in
/-- A staging buffer held whole at given contents. -/
theorem owns_whole (c : Dev nD) (b : Ref sig .tc) (f : b.ty.Contents (Elt F)) :
    (owns (Ix := ℕ) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer of a device, held whole at given contents. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

/-- What the body is run with. -/
def bodyPre (c : Dev nD) : sProp 𝕄 :=
  iprop(before₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What the body must leave: the inputs as loaded, and the finished result. -/
def bodyPost (c : Dev nD) : sProp 𝕄 :=
  iprop(after₀ (F := F) c ∗ (dats m ρ 0 c).owesAt 0 t0_0.succ ∗ stg c cc0_stg0_0 (xOf m c) ∗ stg c cc0_stg1_0 (wOf m c)
    ∗ stg c cc0_stg2_0 (outF (xOf m) (wOf m) c))

/-- The body of the call on one device. -/
theorem body_run (c : Dev nD) : bodyPre m ρ c
    ⊢ runs c (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2 cc0_scratch3)
      fun _ => bodyPost m ρ c := by
  rw [cc0_body_eq]
  simp only [Prog.lift, Prog.bind_op, Prog.bind_ret]
  unfold runs
  rw [wp_deviceId]
  unfold bodyPre before₀ start given scratchAny Dat.owesAt Pipeline.owesWithin
  iintro ⟨⟨⟨⟨%K, #Hrec, Hheld⟩, Hcr, #Hlev⟩, ⟨%f, Hf⟩⟩, ⟨%Ws, %hWs, HO⟩, ⟨%d0, %g0, %hg0, Hx⟩, ⟨%d1, %g1, %hg1, Hw⟩, ⟨%d2, %g2, %hg2, Ho⟩⟩
  have hx : g0 = xOf m c := by rw [hg0]; unfold Dat.before; rw [if_pos (fetch0_0 t0_0)]; exact block_x m ρ c
  have hw : g1 = wOf m c := by rw [hg1]; unfold Dat.before; rw [if_pos (fetch0_1 t0_0)]; exact block_w m ρ c
  subst hx hw
  ihave Hs := (scratch_split (F := F) c f) $$ Hf
  ihave Hst := (starts_intro (F := F) c) $$ [Hheld Hcr]
  · isplitl [Hheld] <;> iassumption
  iapply wp_fupd
  iapply (body_spec (xOf m) (wOf m) K c g2)
  isplitr; · iexact Hrec
  isplitr; · iexact Hlev
  isplitl [Hx Hw]
  · unfold xwPts; isplitl [Hx]; · iexact Hx
    iexact Hw
  isplitl [HO]
  · unfold owing; iexists Ws; iexact HO
  isplitl [Hst]; · iexact Hst
  isplitl [Hs]; · iexact Hs
  isplitl [Ho]
  · unfold outPts; iexact Ho
  unfold xwPts owing outPts
  iintro ⟨⟨Hx, Hw⟩, ⟨%Ws', HO⟩, Ho, Hs, He⟩
  imod (ends_zero (xOf m) (wOf m) K c) $$ [He] with Hz
  · isplitr; · iexact Hrec
    iexact He
  imodintro
  unfold bodyPost after₀ scratchAny Dat.owesAt Pipeline.owesWithin
  isplitl [Hs Hz]
  · isplitl [Hs]; · iapply (scratch_join (F := F) c f); iexact Hs
    iexact Hz
  isplitl [HO]
  · iexists Ws'
    isplitr; · ipureintro; exact fun _ _ => Or.inl trivial
    iexact HO
  isplitl [Hx]
  · iexists xOf m c
    isplitr; · ipureintro; rfl
    iexact Hx
  isplitl [Hw]
  · iexists wOf m c
    isplitr; · ipureintro; rfl
    iexact Hw
  iexists outF (xOf m) (wOf m) c
  isplitr; · ipureintro; rfl
  iexact Ho

/-- What the call runs. -/
theorem called : defs₀ (F := F) Proc.tc 0 (t0_0, cfg0.slots t0_0)
    = cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2 cc0_scratch3 := by
  rfl

/-- So the call's body does as its data says. -/
theorem body_obligation (c : Dev nD) : BodyObligation (dats m ρ 0 c) (defs₀ (F := F)) 𝒱₀ 0 Set.univ := fun t => by
  rw [fin_N0 t]
  rw [bigSep_W0, bigSep_W0]
  simp only [owns_whole]
  have h := body_run m ρ c
  rw [← called] at h
  revert h
  generalize defs₀ (F := F) Proc.tc 0 (t0_0, cfg0.slots t0_0) = p
  exact fun h => h

/-! ## The launch -/

/-- The pipes' semaphores are distinct, and none is the pipeline's own. -/
theorem ownSemFacts : Pipeline.OwnSemFacts cfg0.spec osem := by decide +kernel
/-- Every array is held in full. -/
theorem share_eq (c : Dev nD) (w : Fin cfg0.W) : (dats m ρ 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  iintro ⟨-, Hlev, Hcr, -, Hg⟩
  ihave Hc := (credits_intro (F := F) c) $$ Hcr
  imodintro
  unfold start
  isplitl
  · isplitl [Hg]; · iexact Hg
    isplitl [Hc]; · iexact Hc
    iexact Hlev
  · iempintro

/-- What it starts with, and the scratch buffer, is what the body is entered with. -/
theorem phi_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m c from rfl, scopedRest0_eq]
  unfold before₀ scratchAny
  iintro ⟨Hs, -, Hr⟩
  isplitl [Hs] <;> iassumption

/-- What the body leaves gives back the scratch buffer and the counters. -/
theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scopedRest0_eq]
  unfold after₀ scratchAny
  iintro ⟨Hr, Hz⟩
  ihave Hz' := (Entails.of_eq (counters_eq (F := F) c).symm) $$ Hz
  icases Hz' with ⟨Hu, Ho⟩
  isplitl [Hu]; · iexact Hu
  isplitl [Ho] <;> iassumption

/-- The staging buffers' transfers are waited for before anything a device owes is due. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 _ (by decide) (above_O₀ c)
    · exact mayWait c _ 0 _ (by decide) (Above.zero 0)

/-- What each array holds at the end. -/
def finalA (c : Dev nD) (w : Fin cfg0.W) : Buf (Elt F) ((cfg0.win w).arr.view.loc (c : Thread nD τ)) := (dats m ρ 0 c).arrAt w cfg0.N

set_option maxRecDepth 100000 in
/-- From any memory with every counter at zero the sixteen devices finish, each array at its final contents and every
    counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := part m) (G' := given m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- In the end `x` is as it was; -/
theorem final_x (c : Dev nD) : finalA m ρ c (0 : Fin 3) = m ((c : Thread nD τ).loc main_arg0) := (dats m ρ 0 c).arrAt_in (0 : Fin 3) rfl _
/-- so is `w`; -/
theorem final_w (c : Dev nD) : finalA m ρ c (1 : Fin 3) = m ((c : Thread nD τ).loc main_arg1) := (dats m ρ 0 c).arrAt_in (1 : Fin 3) rfl _
/-- the result is what the ring computes. -/
theorem final_o (c : Dev nD) : finalA m ρ c (2 : Fin 3) = outF (xOf m) (wOf m) c := by
  refine (block_o _).symm.trans ?_
  unfold finalA
  rw [show cfg0.N = (t0_0 : Fin cfg0.N).val + 1 from rfl, (dats m ρ 0 c).arrAt_succ (2 : Fin 3) t0_0]
  rw [if_pos (flush0_2 t0_0)]
  exact View.read_write_univ _ _

/-- The whole run: the inputs unchanged, the result computed, every counter at zero. -/
theorem run_main : θ_run defs (onTc (τ := τ) (main (F := F))) (s₀ m ρ) (fun r => (∀ c : Dev nD,
      r.2.mem ((c : Thread nD τ).loc main_v1) = outF (xOf m) (wOf m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_w m ρ c)⟩, h.2⟩) (run_arrays m ρ)

end Cert.RingProof

end
-- ==== Proof.Frames.lean ====
/-
The programs run, leave their arguments alone and end with every counter at zero.

The kernel and its idealized form are one program, so both are read off the run proved for any float values.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.RingProof

open Idealize.ShloMosaic Idealize.SL.Sem

/-- The kernel and its idealized form name one body for their one label. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So they have one body table. -/
theorem defs_same : Cert.Kernel.defs (F := Bits) = Cert.KernelIdeal.defs (F := Bits) :=
  congrArg (Pipeline.defs Cert.KernelIdeal.pcfgs) bodies_same

/-- The kernel's run on bit patterns. -/
theorem frame_kernel : Cert.quiescent_Kernel := fun m ρ _ => by
  have h := run_main (F := Bits) m ρ
  rw [← defs_same] at h
  exact (θ_run Cert.Kernel.defs (onTc (τ := Cert.Kernel.τ) (Cert.Kernel.main (F := Bits))) _).mono
    (fun _ h => ⟨fun c => (h.1 c).2, h.2⟩) h

/-- The kernel's run on ideal values. -/
theorem frame_ideal : Cert.quiescent_KernelIdeal := fun m ρ _ =>
  (θ_run Cert.KernelIdeal.defs _ _).mono (fun _ h => ⟨fun c => (h.1 c).2, h.2⟩) (run_main (F := Ideal) m ρ)

/-- The reference's run. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end
-- ==== Proof.Value.lean ====
/-
What the ring computes, over the extended reals.

Sixteen hops carry a block once round the ring, each device adding its share, so what is finished is the activation of
the sum of all the shares, in whatever order the ring visits them; the hops after that only pass it on. A share is a
sum over the 128 contracted positions its device holds, so the sum of the shares is the sum over all 2048, which is
the reference's product.
-/
module

public import proofs.«01_k».proof.Defs
public import proofs.«01_k».proof.Proof.Launch
public import proofs.«01_k».proof.Proof.Gen.ReferenceIdeal
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.RingProof

open Cert.KernelIdeal Cert.KernelIdeal.Gen
open Idealize.ShloMosaic Idealize.SL.Sem
open Idealize.ShloMosaic.TcCoe
open Idealize.ShloMosaic.ValueIdx
open scoped BigOperators

/-! ## Round the ring -/

/-- The device `n` places behind on pipe `i`. -/
def behind (i : Fin 4) (n : ℕ) (c : Dev nD) : Dev nD := (src i)^[n] c

/-- One place further behind, from the neighbour. -/
theorem behind_succ (i : Fin 4) (n : ℕ) (c : Dev nD) : behind i (n + 1) c = behind i n (src i c) := rfl

/-- Places add up. -/
theorem behind_add (i : Fin 4) (n k : ℕ) (c : Dev nD) : behind i n (behind i k c) = behind i (n + k) c :=
  (Function.iterate_add_apply (src i) n k c).symm

/-- The chunk received at hop `h` started at the device `h + 1` places behind. -/
theorem at_behind (i : Fin 4) (h : ℕ) (hh : h ≤ 30) (c : Dev nD) : at_ i c h = pos (behind i (h + 1) c) := by
  induction h generalizing c with
  | zero => exact at_zero i c
  | succ h ih => rw [at_succ i c h (by omega), ih (by omega), behind_succ i (h + 1)]

/-- The sixteen devices up to fifteen places behind are all the devices. -/
theorem behind_bijective (i : Fin 4) (c : Dev nD) : Function.Bijective fun n : Fin 16 => behind i n.val c := by
  refine (Fintype.bijective_iff_injective_and_card _).2 ⟨fun n n' h => ?_, rfl⟩
  have h0 : behind i n.val c = behind i n'.val c := h
  have h1 := congrArg (fun d => pos (behind i 15 d)) h0
  simp only [behind_add] at h1
  have e : ∀ k : Fin 16, pos (behind i (15 + k.val) c) = at_ i c (14 + k.val) := fun k => by
    rw [at_behind i (14 + k.val) (by have := k.isLt; omega)]
    congr 2
    omega
  rw [e, e] at h1
  have := at_inj i c _ _ (by omega) (by have := n.isLt; omega) (by omega) (by have := n'.isLt; omega) h1
  exact Fin.ext (by omega)

section Sum

variable (X : Dev nD → Vec Ideal S2048x128 .f32) (W : Dev nD → Vec Ideal S128x2048 .f32)

/-- Before the sixteenth share is added, a block holds the sum of the shares of the devices it has passed. -/
theorem val_partial (i : Fin 4) (n : ℕ) (hn : n ≤ 14) (c : Dev nD) (y : S128x512.Idx) :
    val X W i n c y = ∑ k ∈ Finset.range (n + 1), share X W (behind i k c) (pos (behind i n c)) i y := by
  induction n generalizing c with
  | zero =>
    rw [Finset.sum_range_one]
    rfl
  | succ n ih =>
    have e : val X W i (n + 1) c = addf (val X W i n (src i c)) (share X W c (at_ i c n) i) := by
      show (if 14 < n then _ else if n < 14 then _ else _) = _
      rw [if_neg (by omega), if_pos (by omega)]
    rw [e, Finset.sum_range_succ', at_behind i n (by omega)]
    show val X W i n (src i c) y + _ = _
    rw [ih (by omega)]
    rfl

/-- The hop that adds the last share applies the activation to the sum of all of them. -/
theorem val_full (i : Fin 4) (c : Dev nD) :
    val X W i 15 c = act fun y => ∑ d : Dev nD, share X W d (at_ i c 14) i y := by
  have e : val X W i 15 c = act (addf (val X W i 14 (src i c)) (share X W c (at_ i c 14) i)) := by
    show (if 14 < 14 then _ else if 14 < 14 then _ else _) = _
    rw [if_neg (by omega), if_neg (by omega)]
  rw [e]
  congr 1
  funext y
  rw [← (behind_bijective i c).sum_comp, ← Finset.sum_range (fun k => share X W (behind i k c) (at_ i c 14) i y),
    Finset.sum_range_succ', at_behind i 14 (by omega)]
  show val X W i 14 (src i c) y + _ = _
  rw [val_partial X W i 14 (by omega)]
  rfl

/-- After that a block is passed on unchanged. -/
theorem val_passed (i : Fin 4) (n : ℕ) (c : Dev nD) : val X W i (15 + n) c = val X W i 15 (behind i n c) := by
  induction n generalizing c with
  | zero => rfl
  | succ n ih =>
    have e : val X W i (15 + n + 1) c = val X W i (15 + n) (src i c) := by
      show (if 14 < 15 + n then _ else _) = _
      rw [if_pos (by omega)]
    rw [behind_succ, ← ih, ← e]
    rfl

/-- So every device ends with the activation of the sum of the shares. -/
theorem out_eq (c : Dev nD) (x : S2048x2048.Idx) :
    outF X W c x = act (fun y => ∑ d : Dev nD, share X W d (rowOf x) (pipeOf x) y) (inBlk x) := by
  obtain ⟨h1, h2, h3⟩ := hopOf_spec (pipeOf x) c (rowOf x)
  obtain ⟨n, hn⟩ := Nat.exists_eq_add_of_le h1
  unfold outF
  rw [show hopOf (pipeOf x) c (rowOf x) + 1 = 15 + n by omega, val_passed, val_full]
  have e : at_ (pipeOf x) (behind (pipeOf x) n c) 14 = rowOf x := by
    rw [← h3, at_behind _ _ (by omega), at_behind _ _ (by omega), behind_add]
    congr 2
    omega
  rw [e]

/-- A share at an element of the result: the sum over the positions the device holds. -/
theorem share_apply (d : Dev nD) (p q : Fin 2048) :
    share X W d (rowOf (ix2 p q)) (pipeOf (ix2 p q)) (inBlk (ix2 p q)) = ∑ k : Fin 128, X d (ix2 p k) * W d (ix2 k q) := by
  obtain ⟨x, hx⟩ : ∃ x : S2048x2048.Idx, x = ix2 p q := ⟨_, rfl⟩
  rw [← hx]
  obtain ⟨r, r_eq⟩ : ∃ r : Fin 128, r = inBlk x 0 := ⟨_, rfl⟩
  have hc : colIdx (pipeOf x) (inBlk x) = (ix2 r q : S128x2048.Idx) := by
    have he := congrFun ((emb_inBlk x).trans hx) 1
    rw [r_eq]
    funext a
    match a with
    | 0 => rfl
    | 1 => exact Fin.ext ((by show 512 * _ + _ = 512 * _ + 1 * _; omega : (colIdx (pipeOf x) (inBlk x) 1).val =
        ((oBlk (rowOf x) (pipeOf x)).emb (inBlk x) 1).val).trans (congrArg Fin.val he))
  show row X W d (rowOf x) (colIdx (pipeOf x) (inBlk x)) = _
  rw [hc]
  unfold row prod
  rw [shapeCast_self, shapeCast_self]
  show FloatOps.matmul (DotDims.plain 128 128 2048) none _ _ _ _ = _
  rw [Ideal.matmul_plain_apply]
  show Ideal.ofBits .f32 0x00000000#32 + _ = _
  rw [Ideal.ofBits_zero_f32, zero_add]
  refine Finset.sum_congr rfl fun k _ => ?_
  have hr : (xRow (rowOf x)).emb (ix2 r k) = (ix2 p k : S2048x128.Idx) := by
    have he := congrFun ((emb_inBlk x).trans hx) 0
    rw [r_eq]
    funext a
    match a with
    | 0 => exact Fin.ext (congrArg Fin.val he)
    | 1 => exact Fin.ext (by show 0 + 1 * k.val = k.val; omega)
  rw [hr]

end Sum

/-! ## Against the reference -/

/-- A sum over 2048 positions, in sixteen blocks of 128. -/
theorem sum_blocks (f : Fin 2048 → EReal) (g : Fin 16 → Fin 128 → EReal)
    (h : ∀ d k, g d k = f ⟨d.val * 128 + k.val, by have := d.isLt; have := k.isLt; omega⟩) : ∑ d, ∑ k, g d k = ∑ n, f n := by
  rw [← Fintype.sum_prod_type']
  refine Fintype.sum_equiv (finProdFinEquiv (m := 16) (n := 128)) _ _ fun p => ?_
  rw [h]
  congr 1
  apply Fin.ext
  show p.1.val * 128 + p.2.val = p.2.val + 128 * p.1.val
  omega

/-- `y / (1 + exp (- min 60 (max (-60) y)))`. -/
def silu (y : EReal) : EReal :=
  Ideal.div y (Ideal.ofBits .f32 0x3F800000#32
    + Ideal.exp (-(min (Ideal.ofBits .f32 0x42700000#32) (max (Ideal.ofBits .f32 0xC2700000#32) y))))

/-- The kernel subtracts from zero where the reference negates. -/
theorem act_apply (f : FVec Ideal S128x512 .f32) (y : S128x512.Idx) : act f y = silu (f y) := by
  show Ideal.div (f y) (Ideal.ofBits .f32 0x3F800000#32 + Ideal.exp (Ideal.ofBits .f32 0x00000000#32
    - min (Ideal.ofBits .f32 0x42700000#32) (max (Ideal.ofBits .f32 0xC2700000#32) (f y)))) = _
  rw [Ideal.ofBits_zero_f32, zero_sub]
  rfl

/-- The reference's result, of the whole operands. -/
def refOut (x w : S2048x2048.Idx → EReal) : S2048x2048.Idx → EReal :=
  fun j => silu (∑ n : Fin 2048, x (ix2 (j 0) n) * w (ix2 n (j 1)))

/-- The kernel's result on every device, when each holds its blocks of the whole operands. -/
theorem out_whole (x w : S2048x2048.Idx → EReal) (X : Dev nD → Vec Ideal S2048x128 .f32) (W : Dev nD → Vec Ideal S128x2048 .f32)
    (hX : ∀ c, X c = Layout.block ⟨2, ![2048, 128]⟩ ⟨2, ![2048, 2048]⟩ 1 16 c x)
    (hW : ∀ c, W c = Layout.block ⟨2, ![128, 2048]⟩ ⟨2, ![2048, 2048]⟩ 0 16 c w) (c : Dev nD) : outF X W c = refOut x w := by
  funext j
  obtain ⟨p, q, rfl⟩ : ∃ (p : Fin 2048) (q : Fin 2048), j = ix2 p q := ⟨j 0, j 1, eq_ix2 j⟩
  rw [out_eq, act_apply]
  refine congrArg silu ?_
  simp only [share_apply]
  refine sum_blocks _ (fun d k => X d (ix2 p k) * W d (ix2 k q)) fun d k => ?_
  rw [hX, hW, Layout.block_apply, Layout.block_apply]
  congr 2
  · funext a
    match a with
    | 0 => rfl
    | 1 => rfl
  · funext a
    match a with
    | 0 => rfl
    | 1 => rfl

/-- The idealized kernel computes the reference on every device. -/
theorem algebraic : Cert.algebraic_KernelIdeal_ReferenceIdeal := fun m g m' g' _ hm => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (run_main (F := Ideal) m g)
    refine ⟨((h.1 c).1).trans ?_, (h.1 c).2⟩
    exact out_whole _ _ _ _ (fun c => (hm c).1) (fun c => (hm c).2) c
  · refine (θ_run Cert.ReferenceIdeal.defs _ _).mono (fun r h => ?_) (Cert.ReferenceIdeal.Value.run (F := Ideal) m' g')
    refine ⟨((h 0).1).trans ?_, (h 0).2⟩
    funext j
    obtain ⟨a, b, rfl⟩ : ∃ (a : Fin 2048) (b : Fin 2048), j = ix2 a b := ⟨j 0, j 1, eq_ix2 j⟩
    have hd := StackMember.dotGeneral_plain_apply (m := 2048) (n := 2048) (k := 2048) (φ₁ := .f32) (φ₂ := .f32) none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) a b
    exact congrArg silu hd

end Cert.RingProof

end
-- ==== Proof.lean ====
/-
The certificate: the programs run and leave their arguments alone, the idealized kernel is the kernel, and over the
extended reals it computes the reference on every device.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- Every claim. -/
theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial,
  Cert.RingProof.algebraic⟩

end Cert.Proof

end
